-- ==== Defs.lean ====
def Pre_Kernel [hPre_swaps_Kernel : Cert.Pre_swaps_Kernel.Facts] (m : (ℓ : Loc Cert.Kernel.nD Cert.Kernel.τ Cert.Kernel.sig) → Buf (Elt Bits) ℓ) : Prop :=
  ∀ c : Dev Cert.Kernel.nD,
    (Cert.Pre_swaps_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_Kernel_stays_Kernel [hPre_stays_Kernel : Cert.Pre_stays_Kernel.Facts] (m : (ℓ : Loc Cert.Kernel.nD Cert.Kernel.τ Cert.Kernel.sig) → Buf (Elt Bits) ℓ) : Prop :=
  ∀ c : Dev Cert.Kernel.nD,
    (Cert.Pre_stays_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_swaps_Kernel : Cert.Pre_swaps_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_swaps_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_stays_Kernel [hPre_stays_Kernel : Cert.Pre_stays_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_stays_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_swaps_ReferenceIdeal [hPre_swaps_ReferenceIdeal : Cert.Pre_swaps_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_swaps_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_stays_ReferenceIdeal [hPre_stays_ReferenceIdeal : Cert.Pre_stays_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_stays_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_swaps_Kernel : Cert.Pre_swaps_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_Kernel_pre_stays_Kernel [hKernel : Cert.Kernel.Facts] [hPre_stays_Kernel : Cert.Pre_stays_Kernel.Facts] : Prop :=
  ∀ (m : (ℓ : Loc Cert.Kernel.nD Cert.Kernel.τ Cert.Kernel.sig) → Buf (Elt Bits) ℓ) (g : Dev Cert.Kernel.nD → PrngReg), Pre_Kernel_stays_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_stays_Kernel [hKernelIdeal : Cert.KernelIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_stays_Kernel m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_swaps_ReferenceIdeal [hReferenceIdeal : Cert.ReferenceIdeal.Facts] [hPre_swaps_ReferenceIdeal : Cert.Pre_swaps_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_swaps_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_stays_ReferenceIdeal [hReferenceIdeal : Cert.ReferenceIdeal.Facts] [hPre_stays_ReferenceIdeal : Cert.Pre_stays_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_stays_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_swaps_Kernel : Cert.Pre_swaps_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_pre_stays_Kernel [hKernelIdeal : Cert.KernelIdeal.Facts] [hReferenceIdeal : Cert.ReferenceIdeal.Facts] [hPre_stays_Kernel : Cert.Pre_stays_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_stays_Kernel m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1, 512, 512]⟩ ⟨3, ![2, 512, 512]⟩ (Layout.meshBlock [2, 4, 4] ![[0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_swaps_Kernel : Cert.Pre_swaps_Kernel.Facts) (hPre_stays_Kernel : Cert.Pre_stays_Kernel.Facts) (hPre_swaps_ReferenceIdeal : Cert.Pre_swaps_ReferenceIdeal.Facts) (hPre_stays_ReferenceIdeal : Cert.Pre_stays_ReferenceIdeal.Facts),
    quiescent_Kernel (hKernel := hKernel) (hPre_swaps_Kernel := hPre_swaps_Kernel)
    ∧ quiescent_Kernel_pre_stays_Kernel (hKernel := hKernel) (hPre_stays_Kernel := hPre_stays_Kernel)
    ∧ quiescent_KernelIdeal (hKernelIdeal := hKernelIdeal) (hPre_swaps_Kernel := hPre_swaps_Kernel)
    ∧ quiescent_KernelIdeal_pre_stays_Kernel (hKernelIdeal := hKernelIdeal) (hPre_stays_Kernel := hPre_stays_Kernel)
    ∧ quiescent_ReferenceIdeal (hReferenceIdeal := hReferenceIdeal)
    ∧ quiescent_ReferenceIdeal_pre_swaps_ReferenceIdeal (hReferenceIdeal := hReferenceIdeal) (hPre_swaps_ReferenceIdeal := hPre_swaps_ReferenceIdeal)
    ∧ quiescent_ReferenceIdeal_pre_stays_ReferenceIdeal (hReferenceIdeal := hReferenceIdeal) (hPre_stays_ReferenceIdeal := hPre_stays_ReferenceIdeal)
    ∧ preserves_Kernel_KernelIdeal
    ∧ algebraic_KernelIdeal_ReferenceIdeal (hKernelIdeal := hKernelIdeal) (hReferenceIdeal := hReferenceIdeal) (hPre_swaps_Kernel := hPre_swaps_Kernel)
    ∧ algebraic_KernelIdeal_ReferenceIdeal_pre_stays_Kernel (hKernelIdeal := hKernelIdeal) (hReferenceIdeal := hReferenceIdeal) (hPre_stays_Kernel := hPre_stays_Kernel)
-- ==== Pre_stays_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_stays_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 0#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 1#32
  let main_v5 : IVec S_ 1 := cmpi .eq main_v4 main_c_0
  let main_v6 : IVec S_ 1 := andi main_v2 main_v5
  main_v6
-- ==== Pre_swaps_Kernel.lean ====
abbrev S1x512x512 : Shape := ⟨3, ![1, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S1x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Pre_swaps_ReferenceIdeal.lean ====
abbrev S2x512x512 : Shape := ⟨3, ![2, 512, 512]⟩
abbrev S2 : Shape := ⟨1, ![2]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : FVec F S2x512x512 .bf16) (main_arg1 : IVec S2 32) : IVec S_ 1 :=
  let main_v0 : IVec S1 32 := (extractStridedSlice S1 ![0] · slices_S2_S1_0) main_arg1
  let main_v1 : IVec S_ 32 := shapeCast S_ main_v0 shapeCasts_S1_S_
  let main_c : IVec S_ 32 := constantI S_ 32 1#32
  let main_v2 : IVec S_ 1 := cmpi .eq main_v1 main_c
  let main_v3 : IVec S1 32 := (extractStridedSlice S1 ![1] · slices_S2_S1_1) main_arg1
  let main_v4 : IVec S_ 32 := shapeCast S_ main_v3 shapeCasts_S1_S_
  let main_c_0 : IVec S_ 32 := constantI S_ 32 0#32
  let main_v5 : IVec S_ 1 := cmpi .eq main_v4 main_c_0
  let main_v6 : IVec S_ 1 := andi main_v2 main_v5
  main_v6
-- ==== Kernel.lean ====
abbrev S1x512x512 : Shape := ⟨3, ![1, 512, 512]⟩
abbrev S2 : Shape := ⟨1, ![2]⟩
abbrev S_ : Shape := ⟨0, ![]⟩
abbrev S1 : Shape := ⟨1, ![1]⟩

abbrev nBuf : Space → Nat
  | .hbm => 3
  | .vmem => 2
  | .smem => 1
  | _ => 0

abbrev bufTy : (tb : Table) → Fin (tcTables nBuf tb) → BufTy
  | .hbm, ⟨0, _⟩ => ⟨S1x512x512, .bf16⟩
  | .hbm, ⟨1, _⟩ => ⟨S2, .i32⟩
  | .hbm, ⟨2, _⟩ => ⟨S1x512x512, .bf16⟩
  | .local _ .vmem, ⟨0, _⟩ => ⟨S1x512x512, .bf16⟩
  | .local _ .vmem, ⟨1, _⟩ => ⟨S1x512x512, .bf16⟩
  | .local _ .smem, ⟨0, _⟩ => ⟨S2, .i32⟩
  | _, _ => ⟨S1x512x512, .bf16⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 1 → Bool
  | ⟨0, _⟩ => false
  | _ => false

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  (ofTc nBuf bufTy 1 5 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_stg0_0 : Ref sig .tc := ⟨.smem, 0, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 1 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : Index := Scalar.indexCast v2
  ![v9.toNat]
def k0_dev1 (d0 : Dev nD) (v10 : BitVec 32) : Nat :=
  let c0_i32_5 : BitVec 32 := 0#32
  let c16_i32_4 : BitVec 32 := 16#32
  let v18 : BitVec 32 := Scalar.muli v10 c16_i32_4
  let v19 : BitVec 32 := Scalar.addi c0_i32_5 v18
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_6 : BitVec 32 := 4#32
  let v20 : BitVec 32 := Scalar.muli v5 c4_i32_6
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v22 : BitVec 32 := Scalar.muli v8 c1_i32_7
  let v23 : BitVec 32 := Scalar.addi v21 v22
  v23.toNat
def k0_cond2 (d0 : Dev nD) (v10 : BitVec 32) : BitVec 1 :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v14 : BitVec 1 := Scalar.cmpi .ne v10 v2
  let v15 : BitVec 32 := Scalar.extui v14
  let c0_i32_2 : BitVec 32 := 0#32
  let v16 : BitVec 1 := Scalar.cmpi .ne v15 c0_i32_2
  v16

def k0_dev2 (d0 : Dev nD) (v10 : BitVec 32) : Nat :=
  let c0_i32_15 : BitVec 32 := 0#32
  let c16_i32_14 : BitVec 32 := 16#32
  let v28 : BitVec 32 := Scalar.muli v10 c16_i32_14
  let v29 : BitVec 32 := Scalar.addi c0_i32_15 v28
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v30 : BitVec 32 := Scalar.muli v5 c4_i32_16
  let v31 : BitVec 32 := Scalar.addi v29 v30
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v32 : BitVec 32 := Scalar.muli v8 c1_i32_17
  let v33 : BitVec 32 := Scalar.addi v31 v32
  v33.toNat

def k0_chk1 (d0 : Dev nD) (v10 : BitVec 32) : Prop :=
  (∀ (k0_h2 : k0_cond2 d0 v10 = 1#1), (k0_dev1 d0 v10) < nD) ∧
  (∀ (k0_h2 : k0_cond2 d0 v10 = 1#1), (k0_dev2 d0 v10) < nD)
theorem k0_dev1_lt : ∀ (d0 : Dev nD) (v10 : BitVec 32) (k0_hw1 : k0_chk1 d0 v10), ∀ (k0_h2 : k0_cond2 d0 v10 = 1#1), (k0_dev1 d0 v10) < nD := fun d0 v10 k0_hw1 k0_h2 => k0_hw1.1 k0_h2
theorem k0_dev2_lt : ∀ (d0 : Dev nD) (v10 : BitVec 32) (k0_hw1 : k0_chk1 d0 v10), ∀ (k0_h2 : k0_cond2 d0 v10 = 1#1), (k0_dev2 d0 v10) < nD := fun d0 v10 k0_hw1 k0_h2 => k0_hw1.2 k0_h2

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x512x512 : Shape := ⟨3, ![2, 512, 512]⟩
abbrev S2 : Shape := ⟨1, ![2]⟩
abbrev S_ : Shape := ⟨0, ![]⟩
abbrev S2x1 : Shape := ⟨2, ![2, 1]⟩

abbrev nBuf : Space → Nat
  | .hbm => 16
  | .vmem => 0
  | .smem => 0
  | _ => 0

abbrev bufTy : (tb : Table) → Fin (tcTables nBuf tb) → BufTy
  | .hbm, ⟨0, _⟩ => ⟨S2x512x512, .bf16⟩
  | .hbm, ⟨1, _⟩ => ⟨S2, .i32⟩
  | .hbm, ⟨2, _⟩ => ⟨S2, .i32⟩
  | .hbm, ⟨3, _⟩ => ⟨S2, .i32⟩
  | .hbm, ⟨4, _⟩ => ⟨S2, .i32⟩
  | .hbm, ⟨5, _⟩ => ⟨S_, .i32⟩
  | .hbm, ⟨6, _⟩ => ⟨S2, .i32⟩
  | .hbm, ⟨7, _⟩ => ⟨S2, .i1⟩
  | .hbm, ⟨8, _⟩ => ⟨S_, .i32⟩
  | .hbm, ⟨9, _⟩ => ⟨S2, .i32⟩
  | .hbm, ⟨10, _⟩ => ⟨S2, .i32⟩
  | .hbm, ⟨11, _⟩ => ⟨S2, .i32⟩
  | .hbm, ⟨12, _⟩ => ⟨S2x1, .i32⟩
  | .hbm, ⟨13, _⟩ => ⟨S2x512x512, .bf16⟩
  | .hbm, ⟨14, _⟩ => ⟨S2x512x512, .f32⟩
  | .hbm, ⟨15, _⟩ => ⟨S2x512x512, .bf16⟩
  | _, _ => ⟨S2x512x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== Proof.Peer.lean ====
/-
# The devices and the words they compute

The mesh is 2 x 4 x 4, numbered row by row: device `c` stands at `(c / 16, c / 4 % 4, c % 4)`. A device's peer is the one
at the other place along the first axis and at the same places along the other two. Each device reads one word of the
permutation, the place along the first axis its block goes to. This module says what the kernel's integer chains compute
from that word in the two cases of a permutation of two places: `sw = true`, the places swap, and `sw = false`, they stay.
-/
module

public import proofs.«01_k».proof.Proof.Gen.KernelIdeal

@[expose] public section

noncomputable section

namespace Cert.Exchange

open Cert.KernelIdeal Cert.KernelIdeal.Gen
open Idealize.ShloMosaic

set_option backward.proofsInPublic true in
/-- The device at the other place along the mesh's first axis. -/
def peer (c : Dev nD) : Dev nD := ⟨(c.val + 16) % 32, Nat.mod_lt _ (by decide)⟩

/-- A device is its peer's peer. -/
theorem peer_peer (c : Dev nD) : peer (peer c) = c := by revert c; decide

/-- The device that device `c`'s block goes to. The map is its own inverse, so it is also the device the block that
    ends on `c` comes from. -/
def dest (sw : Bool) (c : Dev nD) : Dev nD := cond sw (peer c) c

set_option backward.proofsInPublic true in
/-- Where device `c` reads the permutation: its own place along the first axis. -/
def slot (c : Dev nD) : S2.Idx := fun a => ⟨c.val / 16, by have : c.val < 32 := c.isLt; fin_cases a; show c.val / 16 < 2; omega⟩

/-- The word device `c` reads there: its destination's place along the first axis. -/
def word (sw : Bool) (c : Dev nD) : BitVec 32 := BitVec.ofNat 32 ((dest sw c).val / 16)

set_option maxRecDepth 100000 in
/-- The kernel's access to the permutation is at the device's slot. -/
theorem off_eq (c : Dev nD) : k0_off1 c 0 = c.val / 16 := by revert c; decide

set_option maxRecDepth 100000 in
/-- When the places swap, the device the kernel computes for its signal is the peer. -/
theorem dev1_val (c : Dev nD) : k0_dev1 c (word true c) = (peer c).val := by revert c; decide

set_option maxRecDepth 100000 in
/-- When the places swap, the device the kernel computes for its transfer is the peer. -/
theorem dev2_val (c : Dev nD) : k0_dev2 c (word true c) = (peer c).val := by revert c; decide

set_option maxRecDepth 100000 in
/-- When the places stay, the kernel does not take its remote branch. -/
theorem cond_stays (c : Dev nD) : ¬ k0_cond2 c (word false c) = 1#1 := by revert c; decide

set_option maxRecDepth 100000 in
/-- When the places swap, the kernel takes its remote branch. -/
theorem cond_swaps (c : Dev nD) : k0_cond2 c (word true c) = 1#1 := by revert c; decide

/-- The condition of the kernel's local branch, from the word read. -/
abbrev localCond (c : Dev nD) (v : BitVec 32) : BitVec 1 :=
  Scalar.cmpi .ne (Scalar.extui (Scalar.cmpi .eq v (Scalar.remsi (Scalar.divsi (Dev.word c) 16#32) 2#32)) : BitVec 32) 0#32

set_option maxRecDepth 100000 in
/-- When the places stay, the kernel takes its local branch. -/
theorem local_stays (c : Dev nD) : localCond c (word false c) = 1#1 := by revert c; decide

set_option maxRecDepth 100000 in
/-- When the places swap, the kernel does not take its local branch. -/
theorem local_swaps (c : Dev nD) : ¬ localCond c (word true c) = 1#1 := by revert c; decide

/-- The devices the kernel computes from the word are devices of the mesh, in the branch where it uses them. -/
theorem chk (sw : Bool) (c : Dev nD) : k0_chk1 c (word sw c) := by
  cases sw
  · exact ⟨fun h => absurd h (cond_stays c), fun h => absurd h (cond_stays c)⟩
  · exact ⟨fun _ => (dev1_val c).trans_lt (peer c).isLt, fun _ => (dev2_val c).trans_lt (peer c).isLt⟩

/-- What the proof asks of the launch memory: device by device, the word of the permutation which that device reads. -/
def WordsOK {F : FTy → Type} (sw : Bool) (m : (ℓ : Loc nD τ sig) → Buf (Elt F) ℓ) : Prop :=
  ∀ c : Dev nD, (m ((c.tc : Thread nD τ).loc main_arg1) : IVec S2 32) (slot c) = word sw c

end Cert.Exchange

end
-- ==== Proof.Schedule.lean ====
/-
# The protocol: which semaphore hands over what

Every device has five semaphores: the barrier, and one each for the load of its block, the local store, the departure and
the arrival of the remote copy. In each case of the permutation some of them are raised once and the rest never. This
module states, semaphore by semaphore, how far it is raised and what memory the raise hands to the device that waits for
it; the facts about the schedule and the waits follow, stated once for all five.
-/
module

public import proofs.«01_k».proof.Proof.Peer
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Scf
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The ghost state: one copy of the rounds for the staging, one for the kernel's own protocol. -/
abbrev UU : Type := UR sig nD τ × UR sig nD τ

local notation "𝕄" => MT nD τ sig Unit (Elt F) ℕ UU ℕ

/-- The staging's copy. -/
abbrev EP : Emb (UR sig nD τ) (MT nD τ sig Unit (Elt F) ℕ UU ℕ) := embL
/-- The protocol's copy. -/
abbrev ER : Emb (UR sig nD τ) (MT nD τ sig Unit (Elt F) ℕ UU ℕ) := embR

variable (m : (ℓ : Loc nD τ sig) → Buf (Elt F) ℓ) (sw : Bool)

/-! ## The semaphores -/

/-- The barrier semaphore both ends of an exchange share by name. -/
abbrev barS : Sem sig := (SemArray.scalar (sig.barrier 0 rfl) : Sems sig S_).sem

/-- A device's five semaphores: barrier, load, store, departure, arrival. -/
abbrev csem : Fin 5 → SemLoc sig := fun
  | 0 => .reg barS
  | 1 => .dma cc0_scratch2.sem
  | 2 => .dma cc0_scratch3.sem
  | 3 => .dma cc0_scratch4.sem
  | 4 => .dma cc0_scratch5.sem

/-- The semaphore `k` of device `c`. -/
abbrev kcell (ck : Dev nD × Fin 5) : GSem nD τ sig := ((ck.1 : Thread nD τ), csem ck.2)

/-- Which of the five a semaphore is, if any. -/
def kind (s : SemLoc sig) : Option (Fin 5) :=
  if s = csem 0 then some 0 else if s = csem 1 then some 1 else if s = csem 2 then some 2
  else if s = csem 3 then some 3 else if s = csem 4 then some 4 else none

/-- Each of the five is itself. -/
theorem kind_csem (k : Fin 5) : kind (csem k) = some k := by revert k; decide

/-- No semaphore of a device is another's or another one of the same device. -/
theorem kcell_injective : Function.Injective (kcell : Dev nD × Fin 5 → GSem nD τ sig) := by
  rintro ⟨c, k⟩ ⟨c', k'⟩ h
  have h1 : c = c' := congrArg (fun g : GSem nD τ sig => g.1.1) h
  have h2 : kind (csem k) = kind (csem k') := congrArg (fun g : GSem nD τ sig => kind g.2) h
  rw [kind_csem, kind_csem] at h2
  rw [h1, Option.some.inj h2]

/-- Which semaphores are raised: the load always, the store when the places stay, the other three when they swap. -/
def active (sw : Bool) : Fin 5 → Bool := fun
  | 0 => sw
  | 1 => true
  | 2 => !sw
  | 3 => sw
  | 4 => sw

/-- What a copy of one block raises a semaphore by. -/
abbrev N : ℕ := (Memref.whole main_v1 : Memref sig .tc _ _ _).view.dmaCredit

/-- By how much a semaphore is raised: the barrier by one, the rest by one copy. -/
def due : Fin 5 → ℕ := fun
  | 0 => 1
  | _ => N

/-- Every raise is by a positive amount. -/
theorem due_pos (k : Fin 5) : 0 < due k := by
  have h : 0 < N := View.dmaCredit_pos _ (by decide)
  fin_cases k
  · exact Nat.one_pos
  all_goals exact h

/-! ## The memory -/

/-- Device `c`'s block at launch. -/
def blk (c : Dev nD) : Vec F S1x512x512 .bf16 := m ((c : Thread nD τ).loc main_arg0)

/-- Device `c` holds the whole of its buffer `b`, at contents `f`. -/
def pts (b : Ref sig .tc) (c : Dev nD) (f : Buf (Elt F) ((Memref.whole b : Memref sig .tc _ _ _).view.loc (c : Thread nD τ))) : sProp 𝕄 :=
  (Memref.whole b : Memref sig .tc _ _ _).view.loc (c : Thread nD τ) ↦[(Memref.whole b : Memref sig .tc _ _ _).view.set]{fullShare} f

omit [FloatOps F] in
/-- The same, without the view. -/
theorem pts_eq (b : Ref sig .tc) (c : Dev nD) (f : Buf (Elt F) ((c : Thread nD τ).loc b)) :
    (pts b c f : sProp 𝕄) = ((c : Thread nD τ).loc b ↦{fullShare} f) := by
  unfold pts; rw [View.set_whole]

omit [FloatOps F] in
instance pts_storable (b : Ref sig .tc) (c : Dev nD) (f) : BI.Storable (upEmb : UEmb _ 𝕄) (pts (F := F) b c f) := by
  unfold pts; infer_instance

/-- What the raise of semaphore `k` of device `c` hands it. The barrier: its peer's result buffer, to write into, and
    that the peer's arrival semaphore is fresh. The load: the block copied, and the block's buffer back. The store: the
    result buffer holding the device's own block, and the copy's source back. The departure: the copy's source back.
    The arrival: the result buffer holding the peer's block. -/
def pay (c : Dev nD) : Fin 5 → sProp 𝕄 := fun
  | 0 => iprop((∃ f, pts main_v1 (peer c) f) ∗ reached ER (kcell (peer c, 4)) 0)
  | 1 => iprop(pts cc0_scratch0 c (blk m c) ∗ pts main_arg0 c (blk m c))
  | 2 => iprop(pts main_v1 c (blk m c) ∗ pts cc0_scratch1 c (blk m c))
  | 3 => pts cc0_scratch1 c (blk m c)
  | 4 => pts main_v1 c (blk m (peer c))

/-- Payloads may be stored in an invariant. -/
instance pay_storable (c : Dev nD) (k : Fin 5) : BI.Storable (upEmb : UEmb _ 𝕄) (pay m c k) := by
  fin_cases k
  · show BI.Storable upEmb iprop((∃ f, pts main_v1 (peer c) f) ∗ reached ER (kcell (peer c, 4)) 0); infer_instance
  · show BI.Storable upEmb iprop(pts cc0_scratch0 c (blk m c) ∗ pts main_arg0 c (blk m c)); infer_instance
  · show BI.Storable upEmb iprop(pts main_v1 c (blk m c) ∗ pts cc0_scratch1 c (blk m c)); infer_instance
  · show BI.Storable upEmb (pts cc0_scratch1 c (blk m c)); infer_instance
  · show BI.Storable upEmb (pts main_v1 c (blk m (peer c))); infer_instance

/-! ## The schedule -/

/-- The schedule: every active semaphore is raised once, by its amount, handing over its payload. -/
def sched : Rounds.Schedule (GSem nD τ sig) Unit 𝕄 where
  duties g r := (kind g.2).elim ∅ fun k => if r = 0 ∧ g.1.2 = .tc ∧ active sw k = true then {()} else ∅
  unitless _ := False
  amount g _ _ := (kind g.2).elim 1 due
  payload g _ _ := (kind g.2).elim iprop(emp) (pay m g.1.1)
  amount_pos g _ _ _ := by
    cases kind g.2 with
    | none => exact Nat.one_pos
    | some k => exact due_pos k

/-- So may the schedule's. -/
instance sched_storable (g : GSem nD τ sig) (r : ℕ) (d : Unit) : BI.Storable (upEmb : UEmb _ 𝕄) ((sched m sw).payload g r d) := by
  show BI.Storable upEmb ((kind g.2).elim iprop(emp) (pay m g.1.1))
  cases kind g.2 with
  | none => show BI.Storable upEmb iprop(emp); infer_instance
  | some k => exact pay_storable m g.1.1 k

/-- An active semaphore has its one raise, -/
theorem duties_active (c : Dev nD) (k : Fin 5) (h : active sw k = true) : (sched m sw).duties (kcell (c, k)) 0 = {()} := by
  show (kind (csem k)).elim _ _ = _
  rw [kind_csem]; exact if_pos ⟨rfl, rfl, h⟩
/-- an inactive one none, -/
theorem duties_idle (c : Dev nD) (k : Fin 5) (h : active sw k = false) : ∀ r, 0 ≤ r → (sched m sw).duties (kcell (c, k)) r = ∅ := fun r _ => by
  show (kind (csem k)).elim _ _ = _
  rw [kind_csem]; exact if_neg fun h' => by rw [h] at h'; exact Bool.false_ne_true h'.2.2
/-- and none is raised a second time. -/
theorem duties_later (g : GSem nD τ sig) : ∀ r, 1 ≤ r → (sched m sw).duties g r = ∅ := fun r hr => by
  show (kind g.2).elim _ _ = _
  cases kind g.2 with
  | none => rfl
  | some k => exact if_neg fun h => by omega

/-- The raise is by the semaphore's amount, -/
theorem amount_at (c : Dev nD) (k : Fin 5) : (sched m sw).amount (kcell (c, k)) 0 () = due k := by
  show (kind (csem k)).elim _ _ = _
  rw [kind_csem]; rfl
/-- and hands over its payload. -/
theorem payload_at (c : Dev nD) (k : Fin 5) : (sched m sw).payload (kcell (c, k)) 0 () = pay m c k := by
  show (kind (csem k)).elim _ _ = _
  rw [kind_csem]; rfl

/-- A wait for an active semaphore's one raise waits for its amount, -/
theorem expect_active (c : Dev nD) (k : Fin 5) (h : active sw k = true) : (sched m sw).expect (kcell (c, k)) 0 = due k := by
  unfold Schedule.expect Schedule.amountOf
  rw [duties_active m sw c k h, Finset.sum_singleton, amount_at]
/-- and is handed its payload. -/
theorem rest_active (c : Dev nD) (k : Fin 5) (h : active sw k = true) :
    bigSep ((sched m sw).duties (kcell (c, k)) 0 \ ∅) (fun d => (sched m sw).payload (kcell (c, k)) 0 d) = pay m c k := by
  rw [Finset.sdiff_empty, duties_active m sw c k h, bigSep_singleton, payload_at]

/-! ## Levels, and what a device owes -/

/-- The order in which semaphores may wait for one another: staging, load, store and departure first, then the barrier,
    then the arrival. -/
def level (s : SemLoc sig) : ℕ := if s = csem 0 then 1 else if s = csem 4 then 2 else 0
/-- Where levels are defined, -/
def L (g : GSem nD τ sig) : Finset Unit := if g.1.2 = .tc then {()} else ∅
/-- and what they are. -/
def lv (g : GSem nD τ sig) (_ : Unit) : ℕ := level g.2
/-- Only a device's own core has levels, -/
theorem L_of_ne (g : GSem nD τ sig) (h : g.1.2 ≠ .tc) : L g = ∅ := if_neg h
/-- at every semaphore. -/
theorem L_tc (c : Dev nD) (sm : SemLoc sig) : L ((c : Thread nD τ), sm) = {()} := if_pos rfl

/-- What a device owes its peer's semaphore `k` at launch: its raise if the places swap, and nothing if they stay. -/
def debt (sw : Bool) (k : Fin 5) : ℕ := cond sw (due k) 0

/-- At launch a device owes its peer the arrival and the barrier signal, in the case that the places swap. -/
def O₀ (sw : Bool) (c : Dev nD) : CellTallies nD τ sig Unit :=
  tallyAt (kcell (peer c, 4)) () (debt sw 4) + tallyAt (kcell (peer c, 0)) () (debt sw 0)

/-- When the places stay, nothing is owed at launch. -/
theorem O₀_stays (c : Dev nD) : O₀ false c = 0 := by
  show tallyAt (kcell (peer c, 4)) () 0 + tallyAt (kcell (peer c, 0)) () 0 = _
  rw [tallyAt_zero, tallyAt_zero, add_zero]

/-- Only the peer's arrival and barrier semaphores are owed anything. -/
theorem O₀_pos {c : Dev nD} {g : GSem nD τ sig} {u : Unit} (h : 0 < O₀ sw c g u) : g = kcell (peer c, 4) ∨ g = kcell (peer c, 0) := by
  unfold O₀ at h
  rw [Pi.add_apply, Finsupp.add_apply, tallyAt_apply, tallyAt_apply] at h
  by_contra hn
  rw [not_or] at hn
  rw [if_neg (fun h' => hn.1 h'.1), if_neg (fun h' => hn.2 h'.1)] at h
  exact Nat.lt_irrefl 0 h

omit [FloatOps F] in
/-- A wait below every level owed is allowed. -/
theorem mayWait_below (c : Dev nD) (s : SemLoc sig) (O : CellTallies nD τ sig Unit) (n : ℕ) (hs : level s ≤ n)
    (hO : ∀ g u, 0 < O g u → ∃ k : Fin 5, g = kcell (peer c, k) ∧ n < level (csem k)) :
    (levAts L lv : sProp 𝕄) ⊢ MayWait (c : Thread nD τ) s () O :=
  MayOwe.of_cut (L := L) (lev := lv) n (fun p hp => by rw [Finset.mem_singleton.mp hp, L_tc]; exact Finset.mem_singleton_self _)
    (fun g u hg => by obtain ⟨k, rfl, _⟩ := hO g u hg; exact Finset.mem_singleton_self _)
    (fun p hp => by rw [Finset.mem_singleton.mp hp]; exact hs)
    (fun g u hg => by obtain ⟨k, rfl, hk⟩ := hO g u hg; exact hk)

/-- The arrival stands above the barrier and the barrier above the rest. -/
theorem level_zero_lt : 0 < level (csem 4) ∧ 0 < level (csem 0) ∧ 1 < level (csem 4) := by decide

omit [FloatOps F] in
/-- A wait on a staging semaphore is allowed at launch and when nothing is owed. -/
theorem mayWait_stage (c : Dev nD) (s : SemLoc sig) (hs : level s = 0) (O : CellTallies nD τ sig Unit) (hO : O = O₀ sw c ∨ O = 0) :
    (levAts L lv : sProp 𝕄) ⊢ MayWait (c : Thread nD τ) s () O := by
  rcases hO with rfl | rfl
  · refine mayWait_below c s _ 0 hs.le fun g u hg => ?_
    rcases O₀_pos sw hg with rfl | rfl
    exacts [⟨4, rfl, level_zero_lt.1⟩, ⟨0, rfl, level_zero_lt.2.1⟩]
  · rw [MayWait_zero]; iintro -; iempintro

omit [FloatOps F] in
/-- A wait below the arrival's level is allowed when only the peer's arrival is owed. -/
theorem mayWait_owing (c : Dev nD) (s : SemLoc sig) (hs : level s ≤ 1) (n : ℕ) :
    (levAts L lv : sProp 𝕄) ⊢ MayWait (c : Thread nD τ) s () (tallyAt (kcell (peer c, 4)) () n) :=
  mayWait_below c s _ 1 hs fun g u hg => by
    rw [tallyAt_apply] at hg
    by_cases h : g = kcell (peer c, 4) ∧ u = ()
    · exact ⟨4, h.1, level_zero_lt.2.2⟩
    · rw [if_neg h] at hg; exact absurd hg (Nat.lt_irrefl 0)

/-! ## The ghost state a device starts from -/

/-- All devices' protocol state that never changes: each semaphore's invariant, and that each is fresh. -/
def records (K : Dev nD × Fin 5 → ℕ) : sProp 𝕄 :=
  iprop((bigSep Finset.univ fun ck : Dev nD × Fin 5 => cellInv ER (sched m sw) (K ck) (kcell ck))
    ∗ bigSep Finset.univ fun ck : Dev nD × Fin 5 => reached ER (kcell ck) 0)
/-- It may be used as often as it is needed. -/
instance records_persistent (K : Dev nD × Fin 5 → ℕ) : BI.Persistent (records m sw K) := by unfold records; infer_instance

/-- One semaphore's invariant among them; -/
theorem inv_at (K : Dev nD × Fin 5 → ℕ) (ck : Dev nD × Fin 5) : records m sw K ⊢ cellInv ER (sched m sw) (K ck) (kcell ck) := by
  unfold records
  iintro ⟨H, -⟩
  iapply (show (bigSep Finset.univ fun ck : Dev nD × Fin 5 => (cellInv ER (sched m sw) (K ck) (kcell ck) : sProp 𝕄)) ⊢ _ from
    bigSep_elim (Finset.mem_univ ck))
  iexact H
/-- that one semaphore is fresh. -/
theorem reached_at (K : Dev nD × Fin 5 → ℕ) (ck : Dev nD × Fin 5) : records m sw K ⊢ reached ER (kcell ck) 0 := by
  unfold records
  iintro ⟨-, H⟩
  iapply (show (bigSep Finset.univ fun ck : Dev nD × Fin 5 => (reached ER (kcell ck) 0 : sProp 𝕄)) ⊢ _ from
    bigSep_elim (Finset.mem_univ ck))
  iexact H

/-- Whose semaphore `k` device `c` raises: the peer's barrier and arrival, and its own load, store and departure. -/
def raises (ck : Dev nD × Fin 5) : Dev nD × Fin 5 := if ck.2 = 0 ∨ ck.2 = 4 then (peer ck.1, ck.2) else ck

/-- The assignment is its own inverse: each raise is made by one device. -/
theorem raises_raises (ck : Dev nD × Fin 5) : raises (raises ck) = ck := by
  obtain ⟨c, k⟩ := ck
  fin_cases k <;> simp [raises, peer_peer]

/-- The positions of device `c` at its five semaphores, and the right to each raise it makes. -/
def tokens (c : Dev nD) : sProp 𝕄 :=
  iprop((bigSep Finset.univ fun k : Fin 5 => atPos ER (kcell (c, k)) 0 ∅ 0) ∗ bigSep Finset.univ fun k : Fin 5 => dutyTok ER (kcell (raises (c, k))) 0 ())

omit [FloatOps F] in
/-- A conjunction over the five semaphores, written out. -/
theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

end Cert.Exchange

end
-- ==== Proof.Body.lean ====
/-
# The kernel's body on one device

The body is followed effect by effect, once for each case of the permutation. When the places stay, the device loads its
block, copies it to the send buffer and stores that to its own result. When they swap, it first gives its result buffer
to its peer with the barrier signal, loads its block and copies it to the send buffer, waits until it has its peer's
result buffer, copies the send buffer there, and waits for the departure and for the arrival of its peer's block. Either
way the result holds the block of the device's destination, the argument is as it was, and all five semaphores are zero.
-/
module

public import proofs.«01_k».proof.Proof.Schedule
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (sw : Bool)

/-- The loops' variants: the kernel has no loop. -/
abbrev 𝒱₀ : Variants := Variants.none

/-! ## Waiting, and closing a semaphore -/

/-- A wait for an active semaphore's one raise: the payload comes, and the semaphore, which nothing raises again, is the
    device's at zero. -/
theorem wait_cell (c : Dev nD) (k : Fin 5) (h : active sw k = true) (κ : ℕ) {w : TpuEff nD τ sig (Elt F) Λ₀ .tc PUnit} {n : ℕ} (hn : n = due k)
    (hw : ∀ K : PUnit → sProp 𝕄, wpE (defs₀ (F := F)) 𝒱₀ (c : Thread nD τ) none Set.univ w K = waitSpec (c : Thread nD τ) Set.univ (csem k) n K)
    (O : CellTallies nD τ sig Unit) (W : Waits sig Unit) {α : Type} {Q : α → sProp 𝕄} {kk : PUnit → Prog (TpuEff nD τ sig (Elt F) Λ₀ .tc) α} :
    iprop(cellInv ER (sched m sw) κ (kcell (c, k)) ∗ cred (tallyAt (kcell (c, k)) () (due k)) ∗ owes (c : Thread nD τ) O W
        ∗ MayWait (c : Thread nD τ) (csem k) () O ∗ atPos ER (kcell (c, k)) 0 ∅ 0)
      ⊢ iprop(((owes (c : Thread nD τ) O (insert (csem k, ()) W) ∗ semVal (kcell (c, k)) 0 ∗ pay m c k)
            -∗ wp frame (wpE (defs₀ (F := F)) 𝒱₀ (c : Thread nD τ) none) Set.univ (kk ⟨⟩) Q)
          -∗ wp frame (wpE (defs₀ (F := F)) 𝒱₀ (c : Thread nD τ) none) Set.univ (.op w kk) Q) := by
  subst hn
  iintro ⟨#HI, Hc, HO, Hmay, Hat⟩ Hk
  iapply (Rounds.wp_wait_rest_token 𝒱₀ ER (sched m sw) (c : Thread nD τ) none (κ := κ) hw (Set.mem_univ _) () (O := O) (W := W) (R := 0) (m := 0) (T := ∅)
      (by rw [Nat.zero_add, expect_active m sw c k h])) $$ [Hc HO Hmay Hat]
  · isplitr; · iexact HI
    isplitl [Hc]; · iexact Hc
    isplitl [HO]; · iexact HO
    isplitl [Hmay] <;> iassumption
  iintro ⟨HO, Hat, -, Hpay⟩
  ihave Hp := (Entails.of_eq (rest_active m sw c k h)) $$ Hpay
  imod (Rounds.cell_close ER (sched m sw) (Set.mem_univ κ) (fun h => h) (R := 0 + 1) (duties_later m sw (kcell (c, k)))) $$ [Hat] with Hz
  · isplitr; · iexact HI
    iexact Hat
  iapply Hk
  isplitl [HO]; · iexact HO
  isplitl [Hz] <;> iassumption

/-- A semaphore which nothing raises is the device's at zero. -/
theorem close_idle (c : Dev nD) (k : Fin 5) (h : active sw k = false) (κ : ℕ) :
    iprop(cellInv ER (sched m sw) κ (kcell (c, k)) ∗ atPos ER (kcell (c, k)) 0 ∅ 0) ⊢ iprop(|={Set.univ}=> semVal (kcell (c, k)) 0) :=
  Rounds.cell_close ER (sched m sw) (Set.mem_univ κ) (fun h => h) (R := 0) (duties_idle m sw c k h)

/-! ## Copying -/

/-- A copy into the block's buffer raises a semaphore as a copy into the result does. -/
theorem credit_scratch0 : (Memref.whole cc0_scratch0 : Memref sig .tc _ _ _).view.dmaCredit = N := rfl
/-- So does the send buffer's. -/
theorem credit_scratch1 : (Memref.whole cc0_scratch1 : Memref sig .tc _ _ _).view.dmaCredit = N := rfl

/-- The whole-buffer rectangle the kernel loads and stores through. -/
abbrev full : Rect S1x512x512 := Rect.unit (s := S1x512x512) ![0, 0, 0] S1x512x512.size inb_S1x512x512_S1x512x512_0_0_0

/-- It starts at the origin. -/
theorem off_zero : (![0, 0, 0] : Fin 3 → Nat) = fun _ => 0 := funext fun a => by fin_cases a <;> rfl
omit [FloatOps F] in
/-- Loading the whole of the block's buffer gives its contents. -/
theorem read_full (f : (cc0_scratch0 : Ref sig .tc).ty.Contents (Elt F)) :
    (Memref.whole cc0_scratch0 : Memref sig .tc _ _ _).view.readAt (Elt F) full.toLoadRect f = f :=
  Memref.readAt_unit_zero (Elt F) cc0_scratch0 off_zero _ f
omit [FloatOps F] in
/-- Storing to the whole of the send buffer replaces its contents. -/
theorem write_full (f w : (cc0_scratch1 : Ref sig .tc).ty.Contents (Elt F)) :
    ((Memref.whole cc0_scratch1 : Memref sig .tc _ _ _).access full : View sig .tc _ _ _).write (Elt F) f w Finset.univ = w :=
  Memref.write_access_unit_zero_univ (Elt F) cc0_scratch1 off_zero _ f w
/-- What the local branch stores is what it loaded, -/
theorem pay1_eq (v : Vec F S1x512x512 .bf16) : k0_pay1 v = v := shapeCast_self v _
/-- and so in the remote branch. -/
theorem pay2_eq (v : Vec F S1x512x512 .bf16) : k0_pay2 v = v := shapeCast_self v _

omit [FloatOps F] in
/-- The load fills the block's buffer with the block, -/
theorem land_load (fd : (cc0_scratch0 : Ref sig .tc).ty.Contents (Elt F)) (fs : (main_arg0 : Ref sig .tc).ty.Contents (Elt F)) :
    (Memref.whole cc0_scratch0 : Memref sig .tc _ _ _).view.write (Elt F) fd ((Memref.whole main_arg0 : Memref sig .tc _ _ _).view.read (Elt F) fs) Finset.univ = fs := by
  show (View.whole cc0_scratch0).write (Elt F) fd ((View.whole main_arg0).read (Elt F) fs) Finset.univ = fs
  rw [View.read_whole]
  exact View.write_whole_univ _ _ _
omit [FloatOps F] in
/-- and a copy of the send buffer fills the result with what the send buffer holds. -/
theorem land_result (fd : (main_v1 : Ref sig .tc).ty.Contents (Elt F)) (fs : (cc0_scratch1 : Ref sig .tc).ty.Contents (Elt F)) :
    (Memref.whole main_v1 : Memref sig .tc _ _ _).view.write (Elt F) fd ((Memref.whole cc0_scratch1 : Memref sig .tc _ _ _).view.read (Elt F) fs) Finset.univ = fs := by
  show (View.whole main_v1).write (Elt F) fd ((View.whole cc0_scratch1).read (Elt F) fs) Finset.univ = fs
  rw [View.read_whole]
  exact View.write_whole_univ _ _ _

/-- The load of the block starts: the device gives the block and the buffer for it, and gets the right to wait. -/
theorem start_load (c : Dev nD) (κ : ℕ) (fd : (cc0_scratch0 : Ref sig .tc).ty.Contents (Elt F))
    {hsrc : (Memref.whole main_arg0 : Memref sig .tc _ _ _).view.WordExact} {hdst : (Memref.whole cc0_scratch0 : Memref sig .tc _ _ _).view.WordExact}
    {hsem : DmaTarget.Typed (nD := nD) .hbm (.dma cc0_scratch2.sem) (.here (Memref.whole cc0_scratch0) : DmaTarget nD τ sig .tc _ _ _)}
    {α : Type} {Q : α → sProp 𝕄} {kk : PUnit → Prog (TpuEff nD τ sig (Elt F) Λ₀ .tc) α} :
    iprop(cellInv ER (sched m sw) κ (kcell (c, 1)) ∗ pts main_arg0 c (blk m c) ∗ pts cc0_scratch0 c fd
        ∗ dutyTok ER (kcell (c, 1)) 0 () ∗ reached ER (kcell (c, 1)) 0)
      ⊢ iprop((cred (tallyAt (kcell (c, 1)) () (due 1)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (Memref.whole main_arg0) (.here (Memref.whole cc0_scratch0)) (.dma cc0_scratch2.sem) hsrc hdst hsem) kk) Q) := by
  unfold pts
  exact Rounds.wp_copy_pointsTo 𝒱₀ ER (sched m sw) (c : Thread nD τ) none (κ := κ) (r := 0) (d := ())
    (by rw [duties_active m sw c 1 rfl]; exact Finset.mem_singleton_self _) () (due 1) (by exact credit_scratch0) (amount_at m sw c 1)
    (by rw [payload_at m sw c 1, land_load]; exact BI.Entails.refl _)

/-- When the places stay, the copy of the send buffer to the device's own result starts. -/
theorem start_store (c : Dev nD) (κ : ℕ) (fd : (main_v1 : Ref sig .tc).ty.Contents (Elt F))
    {hsrc : (Memref.whole cc0_scratch1 : Memref sig .tc _ _ _).view.WordExact} {hdst : (Memref.whole main_v1 : Memref sig .tc _ _ _).view.WordExact}
    {hsem : DmaTarget.Typed (nD := nD) .vmem (.dma cc0_scratch3.sem) (.here (Memref.whole main_v1) : DmaTarget nD τ sig .tc _ _ _)}
    {α : Type} {Q : α → sProp 𝕄} {kk : PUnit → Prog (TpuEff nD τ sig (Elt F) Λ₀ .tc) α} :
    iprop(cellInv ER (sched m false) κ (kcell (c, 2)) ∗ pts cc0_scratch1 c (blk m c) ∗ pts main_v1 c fd
        ∗ dutyTok ER (kcell (c, 2)) 0 () ∗ reached ER (kcell (c, 2)) 0)
      ⊢ iprop((cred (tallyAt (kcell (c, 2)) () (due 2)) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (Memref.whole cc0_scratch1) (.here (Memref.whole main_v1)) (.dma cc0_scratch3.sem) hsrc hdst hsem) kk) Q) := by
  unfold pts
  exact Rounds.wp_copy_pointsTo 𝒱₀ ER (sched m false) (c : Thread nD τ) none (κ := κ) (r := 0) (d := ())
    (by rw [duties_active m false c 2 rfl]; exact Finset.mem_singleton_self _) () (due 2) (by rfl) (amount_at m false c 2)
    (by rw [payload_at m false c 2, land_result]; exact BI.Entails.refl _)

/-- What the peer's barrier hands it is the device's own result buffer, -/
theorem pay_barrier (c : Dev nD) : pay m (peer c) 0 = iprop((∃ f, pts main_v1 c f) ∗ reached ER (kcell (c, 4)) 0) := by
  show iprop((∃ f, pts main_v1 (peer (peer c)) f) ∗ reached ER (kcell (peer (peer c), 4)) 0) = _
  rw [peer_peer]
/-- and the peer's arrival the device's own block. -/
theorem pay_arrival (c : Dev nD) : pay m (peer c) 4 = pts main_v1 (peer c) (blk m c) := by
  show pts main_v1 (peer c) (blk m (peer (peer c))) = _
  rw [peer_peer]

/-- When the places swap, the signal to the device that equals the peer: the device's own result buffer goes with it. -/
theorem signal_peer (c n : Dev nD) (hn : n = peer c) (κ : ℕ) (fd : (main_v1 : Ref sig .tc).ty.Contents (Elt F)) (W : Waits sig Unit)
    {α : Type} {Q : α → sProp 𝕄} {kk : PUnit → Prog (TpuEff nD τ sig (Elt F) Λ₀ .tc) α} :
    iprop(cellInv ER (sched m true) κ (kcell (peer c, 0)) ∗ owes (c : Thread nD τ) (O₀ true c) W ∗ dutyTok ER (kcell (peer c, 0)) 0 ()
        ∗ pts main_v1 c fd ∗ reached ER (kcell (c, 4)) 0 ∗ reached ER (kcell (peer c, 0)) 0)
      ⊢ iprop((owes (c : Thread nD τ) (tallyAt (kcell (peer c, 4)) () (due 4)) W -∗ wp frame (wpE (defs₀ (F := F)) 𝒱₀ (c : Thread nD τ) none) Set.univ (kk ⟨⟩) Q)
          -∗ wp frame (wpE (defs₀ (F := F)) 𝒱₀ (c : Thread nD τ) none) Set.univ (.op (.semSignal (Dev.tc n) barS (1#32 : BitVec 32).toInt) kk) Q) := by
  subst hn
  rw [show (1#32 : BitVec 32).toInt = ((1 : ℕ) : Int) from rfl]
  iintro ⟨HI, HO, Ht, Hv, Hr4, Hr0⟩ Hk
  iapply (Rounds.wp_signal 𝒱₀ ER (sched m true) (c : Thread nD τ) none (dst := (peer c : Thread nD τ)) (κ := κ) (r := 0) (d := ())
      (by rw [duties_active m true (peer c) 0 rfl]; exact Finset.mem_singleton_self _) (amount_at m true (peer c) 0) ()
      (O₀ := O₀ true c) (tallyAt (kcell (peer c, 4)) () (due 4)) rfl) $$ [HI HO Ht Hv Hr4 Hr0]
  · isplitl [HI]; · iexact HI
    isplitl [HO]; · iexact HO
    isplitl [Ht]; · iexact Ht
    isplitl [Hv Hr4]
    · rw [payload_at m true (peer c) 0, pay_barrier]
      isplitl [Hv]; · iexists fd; iexact Hv
      iexact Hr4
    iexact Hr0
  iexact Hk

/-- The two ends of the remote copy are raised alike. -/
theorem due_arrival : due 4 = due 3 := rfl

set_option maxHeartbeats 4000000 in
/-- When the places swap, the remote copy of the send buffer to the result of the device that equals the peer. -/
theorem send_peer (c n : Dev nD) (hn : n = peer c) (κ₁ κ₂ : ℕ) (fd : (main_v1 : Ref sig .tc).ty.Contents (Elt F)) (W : Waits sig Unit)
    {hsc : (Memref.whole main_v1 : Memref sig (Dev.tc n : Thread nD τ).2.kind _ _ _).view.ref.isScScratch = false}
    {hsrc : (Memref.whole cc0_scratch1 : Memref sig .tc _ _ _).view.WordExact} {hdst : (Memref.whole main_v1 : Memref sig .tc _ _ _).view.WordExact}
    {hsem : DmaTarget.Typed .vmem (.dma cc0_scratch5.sem) (.remote (Dev.tc n : Thread nD τ) (Memref.whole main_v1) (.dma cc0_scratch4.sem) hsc)}
    {α : Type} {Q : α → sProp 𝕄} {kk : PUnit → Prog (TpuEff nD τ sig (Elt F) Λ₀ .tc) α} :
    iprop(cellInv ER (sched m true) κ₁ (kcell (c, 3)) ∗ cellInv ER (sched m true) κ₂ (kcell (peer c, 4))
        ∗ pts cc0_scratch1 c (blk m c) ∗ pts main_v1 (peer c) fd
        ∗ owes (c : Thread nD τ) (tallyAt (kcell (peer c, 4)) () (due 4)) W
        ∗ dutyTok ER (kcell (c, 3)) 0 () ∗ reached ER (kcell (c, 3)) 0
        ∗ dutyTok ER (kcell (peer c, 4)) 0 () ∗ reached ER (kcell (peer c, 4)) 0)
      ⊢ iprop(((cred (tallyAt (kcell (c, 3)) () (due 3)) ∗ owes (c : Thread nD τ) 0 W) -∗ wp frame (wpE (defs₀ (F := F)) 𝒱₀ (c : Thread nD τ) none) Set.univ (kk ⟨⟩) Q)
          -∗ wp frame (wpE (defs₀ (F := F)) 𝒱₀ (c : Thread nD τ) none) Set.univ
              (.op (.enqueueDma (Memref.whole cc0_scratch1) (.remote (Dev.tc n : Thread nD τ) (Memref.whole main_v1) (.dma cc0_scratch4.sem) hsc)
                (.dma cc0_scratch5.sem) hsrc hdst hsem) kk) Q) := by
  subst hn
  unfold pts
  exact Rounds.wp_send_pointsTo 𝒱₀ ER (sched m true) (c : Thread nD τ) none (κ₁ := κ₁) (κ₂ := κ₂) (r₁ := 0) (r₂ := 0) (d₁ := ()) (d₂ := ())
    (by rw [duties_active m true c 3 rfl]; exact Finset.mem_singleton_self _) (by rw [duties_active m true (peer c) 4 rfl]; exact Finset.mem_singleton_self _)
    () () (due 3) (by rfl) (amount_at m true c 3) ((amount_at m true (peer c) 4).trans due_arrival) 0 (by rw [zero_add, due_arrival]) (W := W)
    (by rw [payload_at m true c 3]; exact BI.Entails.refl _)
    (by rw [payload_at m true (peer c) 4, pay_arrival, land_result]; exact BI.Entails.refl _)

end Cert.Exchange

end
-- ==== Proof.Device.lean ====
/-
# One device's run of the body, in both cases

The staging puts the permutation into scalar memory; the rest of the body's memory is the kernel's own. Here are the
contents the staging is proved against, what a device holds before and after the body, and the body followed from the
first to the second.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (sw : Bool)

/-! ## The permutation's word -/

/-- The permutation as staged. -/
def staged (c : Dev nD) : (cc0_stg0_0 : Ref sig .tc).ty.Contents (Elt F) :=
  (win0_0.blk (0 : Fin 1)).view.read (Elt F) (m ((c : Thread nD τ).loc main_arg1))

/-- The element the device reads. -/
abbrev slotRect (c : Dev nD) : Rect S2 := Rect.unit (s := S2) (k0_off1 c) S1.size (k0_off1_inb c)
/-- The word it reads. -/
abbrev wordRead (c : Dev nD) (ts : (cc0_stg0_0 : Ref sig .tc).ty.Contents (Elt F)) : BitVec 32 :=
  ((Memref.whole cc0_stg0_0).access (slotRect c) : View sig .tc _ _ _).read (Elt F) ts (Shape.Idx.first (s := S1) (numel1_S1.symm ▸ Nat.one_pos))

omit [FloatOps F] in
variable {m sw} in
/-- It is the word asked of the launch memory. -/
theorem wordRead_eq (h : WordsOK sw m) (c : Dev nD) : wordRead c (staged m c) = word sw c := by
  refine Eq.trans ?_ (h c)
  show m ((c : Thread nD τ).loc main_arg1) _ = _
  refine congrArg _ (funext fun a => Fin.ext ?_)
  fin_cases a
  fin_cases c <;> rfl

/-! ## What a device holds before and after -/

/-- Before the staging: the protocol's state and tokens, the rights to wait for the peer's two raises, the levels, the
    device's block and its result buffer. -/
def start (c : Dev nD) : sProp 𝕄 :=
  iprop((∃ K, records m sw K ∗ tokens c) ∗ cred (tallyAt (kcell (c, 0)) () (debt sw 0)) ∗ cred (tallyAt (kcell (c, 4)) () (debt sw 4)) ∗ levAts L lv
    ∗ pts main_arg0 c (blk m c) ∗ ∃ f, pts main_v1 c f)

/-- Before the body: the two scratch buffers too. -/
def Φ₀ (c : Dev nD) : sProp 𝕄 := iprop(start m sw c ∗ (∃ f, pts cc0_scratch0 c f) ∗ ∃ f, pts cc0_scratch1 c f)

/-- After the body: the block as it was, the result, the scratch buffers and the five semaphores at zero. -/
def Φ₁ (c : Dev nD) : sProp 𝕄 :=
  iprop(pts main_arg0 c (blk m c) ∗ pts main_v1 c (blk m (dest sw c)) ∗ (∃ f, pts cc0_scratch0 c f) ∗ (∃ f, pts cc0_scratch1 c f)
    ∗ semVal (kcell (c, 0)) 0 ∗ semVal (kcell (c, 1)) 0 ∗ semVal (kcell (c, 2)) 0 ∗ semVal (kcell (c, 3)) 0 ∗ semVal (kcell (c, 4)) 0)

/-- The staging's data. -/
def dats (_ : Fin 1) (c : Dev nD) : Dat τ (Elt F) Unit ℕ UU ℕ cfg0 c where
  A w := m ((cfg0.win w).arr.view.loc (c : Thread nD τ))
  after w _ := match w with
    | ⟨0, _⟩ => staged m c
  Φ t := match t with
    | ⟨0, _⟩ => Φ₀ m sw c
    | ⟨_ + 1, _⟩ => Φ₁ m sw c
  q _ := fullShare
  owed t := match t with
    | ⟨0, _⟩ => O₀ sw c
    | ⟨_ + 1, _⟩ => 0

omit [FloatOps F] in
/-- Owning a whole buffer through its memref is holding it at its contents. -/
theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The one window is staged in. -/
theorem fetch_perm (t : Fin cfg0.N) : (cfg0.win (0 : Fin 1)).fetch t = true := by rw [fin_N0 t]; rfl

/-- A staging buffer of device `c` holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- Everything the body starts from, -/
def bodyPre (c : Dev nD) : sProp 𝕄 :=
  iprop(Φ₀ m sw c ∗ (dats m sw 0 c).owesAt () t0_0.castSucc ∗ ∃ d, stg c cc0_stg0_0 ((dats m sw 0 c).before (0 : Fin 1) t0_0 d))
/-- and everything it ends with. -/
def bodyPost (c : Dev nD) : sProp 𝕄 :=
  iprop(Φ₁ m sw c ∗ (dats m sw 0 c).owesAt () t0_0.succ ∗ stg c cc0_stg0_0 (staged m c))

/-! ## The body -/

/-- The body as the launch calls it. -/
abbrev bodyProg : Prog (TpuEff nD τ sig (Elt F) Λ₀ .tc) PUnit :=
  cc0_body (Memref.whole main_arg0) (Memref.isWhole_whole _) (Memref.whole cc0_stg0_0) (Memref.isWhole_whole _) (Memref.whole main_v1) (Memref.isWhole_whole _)
    (Memref.whole cc0_scratch0) (Memref.isWhole_whole _) (Memref.whole cc0_scratch1) (Memref.isWhole_whole _) cc0_scratch2 cc0_scratch3 cc0_scratch4 cc0_scratch5

set_option maxHeartbeats 4000000 in
/-- The body when the places stay. -/
theorem body_stays (h : WordsOK false m) (c : Dev nD) (Kt : PUnit → sProp 𝕄) :
    iprop(bodyPre m false c ∗ (bodyPost m false c -∗ Kt ⟨⟩)) ⊢ wp frame (wpE (defs₀ (F := F)) 𝒱₀ (c : Thread nD τ) none) Set.univ bodyProg Kt := by
  unfold bodyProg
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre Φ₀ start tokens Dat.owesAt Pipeline.owesWithin
  simp only [bigSep_fin5]
  iintro ⟨⟨⟨⟨⟨%K, #HR, ⟨Ha0, Ha1, Ha2, Ha3, Ha4⟩, Ht0, Ht1, Ht2, Ht3, Ht4⟩, -, -, #Hlev, Hx, ⟨%fv, Hv⟩⟩, ⟨%f0, H0⟩, ⟨%f1, H1⟩⟩,
    ⟨%W, %hW, HO⟩, ⟨%d, %g, %hg, Hp⟩⟩, Hk⟩
  have hs : g = staged m c := by rw [hg]; unfold Dat.before; rw [if_pos (fetch_perm t0_0)]; rfl
  subst hs
  rw [show (dats m false 0 c).owed t0_0.castSucc = 0 from O₀_stays c]
  -- the permutation's word
  iapply (wp_load_rect 𝒱₀ (c : Thread nD τ) none Set.univ (m := Memref.whole cc0_stg0_0) (r := slotRect c) (Finset.subset_univ _)) $$ Hp; iintro Hp
  generalize hv : ((Memref.whole cc0_stg0_0).access (slotRect c) : View sig .tc _ _ _).read (Elt F) (staged m c) (Shape.Idx.first (s := S1) (numel1_S1.symm ▸ Nat.one_pos)) = v
  obtain rfl : v = word false c := hv.symm.trans (wordRead_eq h c)
  clear hv
  simp only [wp_assume_of _ _ _ _ (d := k0_chk1.dec _ _) (chk false c)]
  simp only [if_pos (local_stays c), dif_neg (cond_stays c)]
  -- the load starts
  iapply (start_load m false c (K (c, 1)) f0) $$ [Hx H0 Ht1]
  · isplitr; · iapply (inv_at m false K (c, 1)); iexact HR
    isplitl [Hx]; · iexact Hx
    isplitl [H0]; · iexact H0
    isplitl [Ht1]; · iexact Ht1
    iapply (reached_at m false K (c, 1)); iexact HR
  iintro Hc1
  -- the load is awaited
  iapply (wait_cell m false c 1 rfl (K (c, 1)) (by rfl) (wpE_waitDma2_eq 𝒱₀ (c : Thread nD τ) none Set.univ) 0 W) $$ [Hc1 HO Ha1]
  · isplitr; · iapply (inv_at m false K (c, 1)); iexact HR
    isplitl [Hc1]; · iexact Hc1
    isplitl [HO]; · iexact HO
    isplitr; · rw [MayWait_zero]; iempintro
    iexact Ha1
  iintro ⟨HO, Hz1, Hpay⟩
  ihave Hp1 := (show pay m c 1 ⊢ iprop(pts cc0_scratch0 c (blk m c) ∗ pts main_arg0 c (blk m c)) from BI.Entails.refl _) $$ Hpay
  icases Hp1 with ⟨H0, Hx⟩
  ihave H0 := (Entails.of_eq (pts_eq cc0_scratch0 c (blk m c))) $$ H0
  ihave H1 := (Entails.of_eq (pts_eq cc0_scratch1 c f1)) $$ H1
  -- the block is copied to the send buffer
  iapply (wp_load 𝒱₀ (c : Thread nD τ) none Set.univ (m := Memref.whole cc0_scratch0) (Finset.subset_univ _)) $$ H0; iintro H0
  rw [read_full]
  iapply (wp_load 𝒱₀ (c : Thread nD τ) none Set.univ (m := Memref.whole cc0_scratch1) (Finset.subset_univ _)) $$ H1; iintro H1
  iapply (wp_store 𝒱₀ (c : Thread nD τ) none Set.univ (m := Memref.whole cc0_scratch1) (r := full) (Mk := Finset.univ) (Finset.subset_univ _)) $$ H1; iintro H1
  rw [write_full, pay1_eq]
  ihave H1 := (Entails.of_eq (pts_eq cc0_scratch1 c (blk m c)).symm) $$ H1
  -- the store to the device's own result
  iapply (start_store m c (K (c, 2)) fv) $$ [H1 Hv Ht2]
  · isplitr; · iapply (inv_at m false K (c, 2)); iexact HR
    isplitl [H1]; · iexact H1
    isplitl [Hv]; · iexact Hv
    isplitl [Ht2]; · iexact Ht2
    iapply (reached_at m false K (c, 2)); iexact HR
  iintro Hc2
  iapply (wait_cell m false c 2 rfl (K (c, 2)) (by rfl) (wpE_waitDma2_eq 𝒱₀ (c : Thread nD τ) none Set.univ) 0 (insert (csem 1, ()) W)) $$ [Hc2 HO Ha2]
  · isplitr; · iapply (inv_at m false K (c, 2)); iexact HR
    isplitl [Hc2]; · iexact Hc2
    isplitl [HO]; · iexact HO
    isplitr; · rw [MayWait_zero]; iempintro
    iexact Ha2
  iintro ⟨HO, Hz2, Hpay⟩
  ihave Hp2 := (show pay m c 2 ⊢ iprop(pts main_v1 c (blk m (dest false c)) ∗ pts cc0_scratch1 c (blk m c)) from BI.Entails.refl _) $$ Hpay
  icases Hp2 with ⟨Hv, H1⟩
  -- the three semaphores of the exchange are untouched
  imod (close_idle m false c 0 rfl (K (c, 0))) $$ [Ha0] with Hz0
  · isplitr; · iapply (inv_at m false K (c, 0)); iexact HR
    iexact Ha0
  imod (close_idle m false c 3 rfl (K (c, 3))) $$ [Ha3] with Hz3
  · isplitr; · iapply (inv_at m false K (c, 3)); iexact HR
    iexact Ha3
  imod (close_idle m false c 4 rfl (K (c, 4))) $$ [Ha4] with Hz4
  · isplitr; · iapply (inv_at m false K (c, 4)); iexact HR
    iexact Ha4
  ihave H0 := (Entails.of_eq (pts_eq cc0_scratch0 c (blk m c)).symm) $$ H0
  rw [wp_ret]; imodintro
  iapply Hk
  unfold bodyPost Φ₁ Dat.owesAt Pipeline.owesWithin
  rw [show (dats m false 0 c).owed t0_0.succ = 0 from rfl]
  isplitl [Hx Hv H0 H1 Hz0 Hz1 Hz2 Hz3 Hz4]
  · isplitl [Hx]; · iexact Hx
    isplitl [Hv]; · iexact Hv
    isplitl [H0]; · iexists _; iexact H0
    isplitl [H1]; · iexists _; iexact H1
    isplitl [Hz0]; · iexact Hz0
    isplitl [Hz1]; · iexact Hz1
    isplitl [Hz2]; · iexact Hz2
    isplitl [Hz3] <;> iassumption
  isplitl [HO]
  · iexists (insert (csem 2, ()) (insert (csem 1, ()) W))
    isplitr; · ipureintro; exact fun _ _ => Or.inl trivial
    iexact HO
  iexists _; isplitr; · (ipureintro; rfl)
  iexact Hp

set_option maxHeartbeats 4000000 in
/-- The body when the places swap. -/
theorem body_swaps (h : WordsOK true m) (c : Dev nD) (Kt : PUnit → sProp 𝕄) :
    iprop(bodyPre m true c ∗ (bodyPost m true c -∗ Kt ⟨⟩)) ⊢ wp frame (wpE (defs₀ (F := F)) 𝒱₀ (c : Thread nD τ) none) Set.univ bodyProg Kt := by
  unfold bodyProg
  simp only [cc0_body_eq_skeleton]; unfold cc0_body_skel
  simp only [semSignalWord, semWaitWord, smemLoad, smemLoadElt, Prog.lift, Prog.bind_op, Prog.bind_ret, Prog.pure_eq_ret, Prog.bind_assoc, wp_deviceId]
  unfold bodyPre Φ₀ start tokens Dat.owesAt Pipeline.owesWithin
  simp only [bigSep_fin5]
  iintro ⟨⟨⟨⟨⟨%K, #HR, ⟨Ha0, Ha1, Ha2, Ha3, Ha4⟩, Ht0, Ht1, Ht2, Ht3, Ht4⟩, Hc0, Hc4, #Hlev, Hx, ⟨%fv, Hv⟩⟩, ⟨%f0, H0⟩, ⟨%f1, H1⟩⟩,
    ⟨%W, %hW, HO⟩, ⟨%d, %g, %hg, Hp⟩⟩, Hk⟩
  have hs : g = staged m c := by rw [hg]; unfold Dat.before; rw [if_pos (fetch_perm t0_0)]; rfl
  subst hs
  rw [show (dats m true 0 c).owed t0_0.castSucc = O₀ true c from rfl]
  -- the permutation's word
  iapply (wp_load_rect 𝒱₀ (c : Thread nD τ) none Set.univ (m := Memref.whole cc0_stg0_0) (r := slotRect c) (Finset.subset_univ _)) $$ Hp; iintro Hp
  generalize hv : ((Memref.whole cc0_stg0_0).access (slotRect c) : View sig .tc _ _ _).read (Elt F) (staged m c) (Shape.Idx.first (s := S1) (numel1_S1.symm ▸ Nat.one_pos)) = v
  obtain rfl : v = word true c := hv.symm.trans (wordRead_eq h c)
  clear hv
  simp only [wp_assume_of _ _ _ _ (d := k0_chk1.dec _ _) (chk true c)]
  simp only [if_neg (local_swaps c), dif_pos (cond_swaps c)]
  -- the load starts
  iapply (start_load m true c (K (c, 1)) f0) $$ [Hx H0 Ht1]
  · isplitr; · iapply (inv_at m true K (c, 1)); iexact HR
    isplitl [Hx]; · iexact Hx
    isplitl [H0]; · iexact H0
    isplitl [Ht1]; · iexact Ht1
    iapply (reached_at m true K (c, 1)); iexact HR
  iintro Hc1
  -- the barrier signal takes the device's result buffer to the peer
  iapply (signal_peer m c _ (Fin.ext (dev1_val c)) (K (peer c, 0)) fv W) $$ [HO Ht0 Hv]
  · isplitr; · iapply (inv_at m true K (peer c, 0)); iexact HR
    isplitl [HO]; · iexact HO
    isplitl [Ht0]; · iexact Ht0
    isplitl [Hv]; · iexact Hv
    isplitr; · iapply (reached_at m true K (c, 4)); iexact HR
    iapply (reached_at m true K (peer c, 0)); iexact HR
  iintro HO
  -- the load is awaited
  iapply (wait_cell m true c 1 rfl (K (c, 1)) (by rfl) (wpE_waitDma2_eq 𝒱₀ (c : Thread nD τ) none Set.univ) (tallyAt (kcell (peer c, 4)) () (due 4)) W) $$ [Hc1 HO Ha1]
  · isplitr; · iapply (inv_at m true K (c, 1)); iexact HR
    isplitl [Hc1]; · iexact Hc1
    isplitl [HO]; · iexact HO
    isplitr; · iapply (mayWait_owing c (csem 1) (by decide)); iexact Hlev
    iexact Ha1
  iintro ⟨HO, Hz1, Hpay⟩
  ihave Hp1 := (show pay m c 1 ⊢ iprop(pts cc0_scratch0 c (blk m c) ∗ pts main_arg0 c (blk m c)) from BI.Entails.refl _) $$ Hpay
  icases Hp1 with ⟨H0, Hx⟩
  ihave H0 := (Entails.of_eq (pts_eq cc0_scratch0 c (blk m c))) $$ H0
  ihave H1 := (Entails.of_eq (pts_eq cc0_scratch1 c f1)) $$ H1
  -- the block is copied to the send buffer
  iapply (wp_load 𝒱₀ (c : Thread nD τ) none Set.univ (m := Memref.whole cc0_scratch0) (Finset.subset_univ _)) $$ H0; iintro H0
  rw [read_full]
  iapply (wp_load 𝒱₀ (c : Thread nD τ) none Set.univ (m := Memref.whole cc0_scratch1) (Finset.subset_univ _)) $$ H1; iintro H1
  iapply (wp_store 𝒱₀ (c : Thread nD τ) none Set.univ (m := Memref.whole cc0_scratch1) (r := full) (Mk := Finset.univ) (Finset.subset_univ _)) $$ H1; iintro H1
  rw [write_full, pay2_eq]
  ihave H1 := (Entails.of_eq (pts_eq cc0_scratch1 c (blk m c)).symm) $$ H1
  -- the peer's result buffer comes
  iapply (wait_cell m true c 0 rfl (K (c, 0)) (by rfl) (wpE_semWait_eq 𝒱₀ (c : Thread nD τ) none Set.univ) (tallyAt (kcell (peer c, 4)) () (due 4)) (insert (csem 1, ()) W)) $$ [Hc0 HO Ha0]
  · isplitr; · iapply (inv_at m true K (c, 0)); iexact HR
    isplitl [Hc0]; · iexact Hc0
    isplitl [HO]; · iexact HO
    isplitr; · iapply (mayWait_owing c (csem 0) (by decide)); iexact Hlev
    iexact Ha0
  iintro ⟨HO, Hz0, Hpay⟩
  ihave Hp0 := (show pay m c 0 ⊢ iprop((∃ f, pts main_v1 (peer c) f) ∗ reached ER (kcell (peer c, 4)) 0) from BI.Entails.refl _) $$ Hpay
  icases Hp0 with ⟨⟨%fn, Hv⟩, -⟩
  -- the block goes to the peer
  iapply (send_peer m c _ (Fin.ext (dev2_val c)) (K (c, 3)) (K (peer c, 4)) fn (insert (csem 0, ()) (insert (csem 1, ()) W))) $$ [H1 Hv HO Ht3 Ht4]
  · isplitr; · iapply (inv_at m true K (c, 3)); iexact HR
    isplitr; · iapply (inv_at m true K (peer c, 4)); iexact HR
    isplitl [H1]; · iexact H1
    isplitl [Hv]; · iexact Hv
    isplitl [HO]; · iexact HO
    isplitl [Ht3]; · iexact Ht3
    isplitr; · iapply (reached_at m true K (c, 3)); iexact HR
    isplitl [Ht4]; · iexact Ht4
    iapply (reached_at m true K (peer c, 4)); iexact HR
  iintro ⟨Hc3, HO⟩
  -- its departure
  iapply (wait_cell m true c 3 rfl (K (c, 3)) (by rfl) (wpE_waitDma2_eq 𝒱₀ (c : Thread nD τ) none Set.univ) 0 (insert (csem 0, ()) (insert (csem 1, ()) W))) $$ [Hc3 HO Ha3]
  · isplitr; · iapply (inv_at m true K (c, 3)); iexact HR
    isplitl [Hc3]; · iexact Hc3
    isplitl [HO]; · iexact HO
    isplitr; · rw [MayWait_zero]; iempintro
    iexact Ha3
  iintro ⟨HO, Hz3, Hpay⟩
  ihave H1 := (show pay m c 3 ⊢ pts cc0_scratch1 c (blk m c) from BI.Entails.refl _) $$ Hpay
  -- the arrival of the peer's
  iapply (wait_cell m true c 4 rfl (K (c, 4)) (by rfl) (wpE_waitDma2_eq 𝒱₀ (c : Thread nD τ) none Set.univ) 0 (insert (csem 3, ()) (insert (csem 0, ()) (insert (csem 1, ()) W)))) $$ [Hc4 HO Ha4]
  · isplitr; · iapply (inv_at m true K (c, 4)); iexact HR
    isplitl [Hc4]; · iexact Hc4
    isplitl [HO]; · iexact HO
    isplitr; · rw [MayWait_zero]; iempintro
    iexact Ha4
  iintro ⟨HO, Hz4, Hpay⟩
  ihave Hv := (show pay m c 4 ⊢ pts main_v1 c (blk m (dest true c)) from BI.Entails.refl _) $$ Hpay
  -- the local store's semaphore is untouched
  imod (close_idle m true c 2 rfl (K (c, 2))) $$ [Ha2] with Hz2
  · isplitr; · iapply (inv_at m true K (c, 2)); iexact HR
    iexact Ha2
  ihave H0 := (Entails.of_eq (pts_eq cc0_scratch0 c (blk m c)).symm) $$ H0
  rw [wp_ret]; imodintro
  iapply Hk
  unfold bodyPost Φ₁ Dat.owesAt Pipeline.owesWithin
  rw [show (dats m true 0 c).owed t0_0.succ = 0 from rfl]
  isplitl [Hx Hv H0 H1 Hz0 Hz1 Hz2 Hz3 Hz4]
  · isplitl [Hx]; · iexact Hx
    isplitl [Hv]; · iexact Hv
    isplitl [H0]; · iexists _; iexact H0
    isplitl [H1]; · iexists _; iexact H1
    isplitl [Hz0]; · iexact Hz0
    isplitl [Hz1]; · iexact Hz1
    isplitl [Hz2]; · iexact Hz2
    isplitl [Hz3] <;> iassumption
  isplitl [HO]
  · iexists (insert (csem 4, ()) (insert (csem 3, ()) (insert (csem 0, ()) (insert (csem 1, ()) W))))
    isplitr; · ipureintro; exact fun _ _ => Or.inl trivial
    iexact HO
  iexists _; isplitr; · (ipureintro; rfl)
  iexact Hp

set_option maxRecDepth 4000 in
/-- In both cases, the body takes each device from what it holds before to what it holds after. -/
theorem body_obligation (h : WordsOK sw m) (c : Dev nD) : BodyObligation (dats m sw 0 c) (defs₀ (F := F)) 𝒱₀ () Set.univ := fun t => by
  rw [fin_N0 t]
  rw [bigSep_W0, bigSep_W0]
  simp only [owns_eq]
  show bodyPre m sw c ⊢ wp frame (wpE (defs₀ (F := F)) 𝒱₀ (c : Thread nD τ) none) Set.univ bodyProg fun _ => bodyPost m sw c
  iintro H
  cases sw
  · iapply (body_stays m h c fun _ => bodyPost m false c)
    isplitl [H]; · iexact H
    iintro H; iexact H
  · iapply (body_swaps m h c fun _ => bodyPost m true c)
    isplitl [H]; · iexact H
    iintro H; iexact H

end Cert.Exchange

end
-- ==== Proof.Launch.lean ====
/-
# The run, from the launch to the end

Every device's body is followed from what it holds before to what it holds after. Here the launch deals the devices what
they hold before — the memory, the semaphores' invariants, the right to each raise to the device that makes it — and the
end of the run is read off what they hold after.
-/
module

public import proofs.«01_k».proof.Proof.Device
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (sw : Bool)

/-! ## The semaphores at launch -/

/-- The kernel's own semaphores, in order: load, store, departure, arrival. -/
abbrev osem : Fin 4 → SemLoc sig := fun k => csem k.succ

/-- They are four different ones, none of them the staging's. -/
theorem ownSemFacts : Pipeline.OwnSemFacts cfg0.spec osem := by decide

/-- The staging's window is held whole. -/
theorem share_eq (c : Dev nD) (w : Fin cfg0.W) : (dats m sw 0 c).share w = fullShare := by unfold Dat.share; split <;> rfl

/-- All the protocol's semaphores. -/
def ringCells : Finset (GSem nD τ sig) := Finset.univ.map ⟨kcell, kcell_injective⟩

/-- The right to a semaphore's raise. -/
abbrev tokOf (ck : Dev nD × Fin 5) : GSem nD τ sig × ℕ × Unit := (kcell ck, 0, ())
/-- Each semaphore has its own. -/
theorem tokOf_injective : Function.Injective (tokOf : Dev nD × Fin 5 → GSem nD τ sig × ℕ × Unit) :=
  fun _ _ h => kcell_injective (congrArg Prod.fst h)
/-- All rights to raise. -/
def ringToks : Finset (GSem nD τ sig × ℕ × Unit) := Finset.univ.map ⟨tokOf, tokOf_injective⟩

/-- The ghost state at launch. -/
def u₀ : UU := (initOf (Pipeline.cells cfgs cellOf_inj) (Pipeline.launchToks cfgs cellOf_inj), initOf ringCells ringToks)

/-- The rights to raise device `c`'s own semaphores. -/
def toks (c : Dev nD) : sProp 𝕄 := bigSep Finset.univ fun k : Fin 5 => dutyTok ER (kcell (c, k)) 0 ()

/-- What the launch deals device `c`: the state of its semaphores, its positions at them, and the rights to raise them. -/
def G (c : Dev nD) : sProp 𝕄 :=
  iprop((bigSep Finset.univ fun k : Fin 5 => roundState ER (sched m sw) (kcell (c, k)) 0)
    ∗ (bigSep Finset.univ fun k : Fin 5 => iprop(atPos ER (kcell (c, k)) 0 ∅ 0 ∗ reached ER (kcell (c, k)) 0)) ∗ toks c)

/-- What becomes of it when all devices' semaphores are shared out. -/
def G' (c : Dev nD) : sProp 𝕄 := iprop(∃ K, records m sw K ∗ tokens c)

omit [FloatOps F] in
/-- The launch has what it deals. -/
theorem fund_ring : BI.own (ER (initOf ringCells ringToks)) ⊢ (|==> bigSep Finset.univ (G m sw) : sProp 𝕄) := by
  have hX (Φ : GSem nD τ sig → sProp 𝕄) : bigSep ringCells Φ = bigSep Finset.univ fun c : Dev nD => bigSep Finset.univ fun k : Fin 5 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod]; rfl
  iintro HX
  imod (Rounds.fund ER (sched m sw) ringCells ringToks) $$ HX with ⟨Hst, Hr, Hat, Htok⟩
  imodintro
  ihave Hst' := (Entails.of_eq (hX fun g => roundState ER (sched m sw) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores at zero, written out. -/
theorem ownSems0_eq (c : Dev nD) : (Pipeline.ownSems0 (Ix := Unit) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0) := by
  rw [Pipeline.ownSems0_eq_of_list c osem [0, 1, 2, 3] (by decide) (by decide)]; rfl

omit [FloatOps F] in
/-- The barrier is the one semaphore that outlives the kernel. -/
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
/-- Together they are the five. -/
theorem sems0_intro (c : Dev nD) :
    iprop(Pipeline.ownSems0 (Ix := Unit) (Name := ℕ) (U := UU) (Lvl := ℕ) (Val := Elt F) (τ := τ) osem c ∗ unscopedSems0 c)
      ⊢ (bigSep Finset.univ fun k : Fin 5 => semVal (kcell (c, k)) 0 : sProp 𝕄) := by
  rw [ownSems0_eq, unscopedSems0_eq, bigSep_fin5]
  iintro ⟨⟨H1, H2, H3, H4⟩, H0⟩
  isplitl [H0]; · iexact H0
  isplitl [H1]; · iexact H1
  isplitl [H2]; · iexact H2
  isplitl [H3] <;> iassumption

omit [FloatOps F] in
/-- One device's semaphores become invariants. -/
theorem core_alloc (c : Dev nD) :
    iprop(Pipeline.ownSems0 (Ix := Unit) (Name := ℕ) (U := UU) (Lvl := ℕ) (Val := Elt F) (τ := τ) osem c ∗ unscopedSems0 c ∗ G m sw c)
      ⊢ |={Set.univ}=> iprop((bigSep Finset.univ fun k => iprop(∃ κ : ℕ, cellInv ER (sched m sw) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_intro (F := F) c) $$ [Hos Hus]
  · isplitl [Hos] <;> iassumption
  imod (show iprop((bigSep Finset.univ fun k : Fin 5 => semVal (kcell (c, k)) 0) ∗ bigSep Finset.univ fun k : Fin 5 => roundState ER (sched m sw) (kcell (c, k)) 0)
      ⊢ (|={Set.univ}=> bigSep Finset.univ fun k => iprop(∃ κ : ℕ, cellInv ER (sched m sw) κ (kcell (c, k))) : sProp 𝕄) from by
        rw [← bigSep_sep']
        exact (bigSep_mono fun k _ => (Rounds.body_intro ER (sched m sw) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The raises, as a permutation of the semaphores. -/
def raisesEquiv : Dev nD × Fin 5 ≃ Dev nD × Fin 5 := ⟨raises, raises, raises_raises, raises_raises⟩

omit [FloatOps F] in
/-- The rights to raise, sorted by whose semaphore is raised, are the rights sorted by who raises. -/
theorem toks_dealt : (bigSep Finset.univ fun c : Dev nD => (toks c : sProp 𝕄))
    = bigSep Finset.univ fun c : Dev nD => bigSep Finset.univ fun k : Fin 5 => dutyTok ER (kcell (raises (c, k))) 0 () := by
  unfold toks
  rw [← bigSep_univ_prod (fun ck : Dev nD × Fin 5 => (dutyTok ER (kcell ck) 0 () : sProp 𝕄)),
    ← bigSep_univ_prod (fun ck : Dev nD × Fin 5 => (dutyTok ER (kcell (raises ck)) 0 () : sProp 𝕄)),
    bigSep_univ_equiv raisesEquiv (fun ck : Dev nD × Fin 5 => (dutyTok ER (kcell ck) 0 () : sProp 𝕄))]
  rfl

omit [FloatOps F] in
/-- What never changes goes to every member of a conjunction. -/
theorem bigSep_keeping {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
/-- The invariants of all devices are put together, and every device gets its tokens. -/
theorem regroup :
    (bigSep Finset.univ fun c : Dev nD => iprop((bigSep Finset.univ fun k => iprop(∃ κ : ℕ, cellInv ER (sched m sw) κ (kcell (c, k))))
          ∗ (bigSep Finset.univ fun k => iprop(atPos ER (kcell (c, k)) 0 ∅ 0 ∗ reached ER (kcell (c, k)) 0)) ∗ toks c) : sProp 𝕄)
      ⊢ bigSep Finset.univ (G' m sw) := by
  rw [bigSep_sep', bigSep_sep', toks_dealt, ← bigSep_univ_prod (fun ck : Dev nD × Fin 5 => iprop(∃ κ : ℕ, cellInv ER (sched m sw) κ (kcell ck))),
    bigSep_congr (s := Finset.univ) (fun (c : Dev nD) _ => bigSep_sep' Finset.univ (fun k : Fin 5 => (atPos ER (kcell (c, k)) 0 ∅ 0 : sProp 𝕄)) (fun k => reached ER (kcell (c, k)) 0)),
    bigSep_sep', ← bigSep_univ_prod (fun ck : Dev nD × Fin 5 => (reached ER (kcell ck) 0 : sProp 𝕄))]
  iintro ⟨HI, ⟨Hat, #HR⟩, Htok⟩
  ihave HK := (BI.bigSep_exists_pi Finset.univ (fun (ck : Dev nD × Fin 5) (κ : ℕ) => (cellInv ER (sched m sw) κ (kcell ck) : sProp 𝕄))) $$ HI
  icases HK with ⟨%K, #HI⟩
  iapply (bigSep_keeping (R := records m sw K) (Φ := tokens) (Ψ := G' m sw) fun c _ => by
    unfold G'
    iintro H
    iexists K
    iexact H)
  isplitr
  · unfold records; isplitl; · iexact HI
    iexact HR
  · unfold tokens
    rw [bigSep_sep']
    isplitl [Hat]; · iexact Hat
    iexact Htok

omit [FloatOps F] in
/-- The sharing out of the semaphores of all devices at once. -/
theorem glob : (bigSep Finset.univ fun c => iprop(Pipeline.ownSems0 (Ix := Unit) (Name := ℕ) (U := UU) (Lvl := ℕ) (Val := Elt F) (τ := τ) osem c ∗ unscopedSems0 c ∗ G m sw c) : sProp 𝕄)
    ⊢ |={Set.univ}=> bigSep Finset.univ (G' m sw) :=
  ((bigSep_mono fun c _ => core_alloc m sw c).trans (bigSep_fupd _ _)).trans (BI.fupd_mono (regroup m sw))

/-! ## The rights to wait -/

/-- What device `d` owes device `c`'s barrier or arrival: its raise, if it is the peer. -/
theorem owed_at (d c : Dev nD) (k : Fin 5) (hk : k = 0 ∨ k = 4) : O₀ sw d (kcell (c, k)) () = if d = peer c then debt sw k else 0 := by
  unfold O₀
  rw [Pi.add_apply, Finsupp.add_apply, tallyAt_apply, tallyAt_apply]
  have hiff (j : Fin 5) : (kcell (c, k) = kcell (peer d, j) ∧ () = ()) ↔ (d = peer c ∧ k = j) := by
    constructor
    · rintro ⟨h, -⟩
      have h' := kcell_injective h
      rw [Prod.mk.injEq] at h'
      exact ⟨by rw [h'.1, peer_peer], h'.2⟩
    · rintro ⟨rfl, rfl⟩
      exact ⟨by rw [peer_peer], rfl⟩
  rw [if_congr (hiff 4) rfl rfl, if_congr (hiff 0) rfl rfl]
  by_cases hd : d = peer c
  · rcases hk with rfl | rfl
    · rw [if_neg (fun h => absurd h.2 (by decide)), if_pos ⟨hd, rfl⟩, if_pos hd, zero_add]
    · rw [if_pos ⟨hd, rfl⟩, if_neg (fun h => absurd h.2 (by decide)), if_pos hd, add_zero]
  · rw [if_neg fun h => hd h.1, if_neg fun h => hd h.1, if_neg hd]

/-- So device `c` may wait there for its peer's raise. -/
theorem launch_at (c : Dev nD) (k : Fin 5) (hk : k = 0 ∨ k = 4) :
    tallyOn (kcell (c, k)) (launchCredit (Pipeline.owing (O₀ sw)) 0 (kcell (c, k))) = (tallyAt (kcell (c, k)) () (debt sw k) : CellTallies nD τ sig Unit) := by
  unfold tallyAt; refine congrArg _ (Finsupp.ext fun u => ?_); cases u
  rw [Pipeline.launchCredit_owing, Finsupp.single_eq_same, Finset.sum_congr rfl fun d _ => owed_at sw d c k hk,
    Finset.sum_ite_eq' Finset.univ (peer c) fun _ => debt sw k, if_pos (Finset.mem_univ _)]

omit [FloatOps F] in
/-- The two rights to wait of device `c`. -/
theorem creds (c : Dev nD) :
    (Pipeline.launchCred (O₀ sw) c : sProp 𝕄) ⊢ iprop(cred (tallyAt (kcell (c, 0)) () (debt sw 0)) ∗ cred (tallyAt (kcell (c, 4)) () (debt sw 4))) := by
  unfold Pipeline.launchCred
  rw [bigSep_univ_at _ (csem 0), launch_at sw c 0 (Or.inl rfl)]
  refine sep_mono_right ?_
  rw [← launch_at sw c 4 (Or.inr rfl)]
  exact bigSep_elim (Finset.mem_erase.mpr ⟨(by decide : csem 4 ≠ csem 0), Finset.mem_univ _⟩)

/-! ## Before and after the body -/

omit [FloatOps F] in
/-- The launch gives a device what it starts from. -/
theorem start_intro (c : Dev nD) :
    iprop(Pipeline.unscopedRestP Pipeline.Prefetch.none cfg0.spec c (fun b => m ((c : Thread nD τ).loc b)) ∗ levAts L lv
        ∗ Pipeline.launchCred (O₀ sw) c ∗ prngReg c (ρ c) ∗ G' m sw c)
      ⊢ |={Set.univ}=> iprop(start m sw c ∗ emp) := by
  rw [show (Pipeline.unscopedRestP Pipeline.Prefetch.none cfg0.spec c (fun b => m ((c : Thread nD τ).loc b)) : sProp 𝕄)
      = iprop(pts main_arg0 c (blk m c) ∗ pts main_v1 c (m ((c : Thread nD τ).loc main_v1))) from by
    rw [Pipeline.unscopedRestP_none, unscopedRest0_eq, pts_eq, pts_eq]; rfl]
  iintro ⟨⟨Hx, Hv⟩, Hlev, Hcr, -, HG⟩
  ihave Hc := (creds (F := F) sw c) $$ Hcr
  icases Hc with ⟨H0, H4⟩
  imodintro
  unfold start G'
  isplitl
  · isplitl [HG]; · iexact HG
    isplitl [H0]; · iexact H0
    isplitl [H4]; · iexact H4
    isplitl [Hlev]; · iexact Hlev
    isplitl [Hx]; · iexact Hx
    iexists _; iexact Hv
  · iempintro

/-- With the scratch buffers, that is what the body starts from. -/
theorem phi0_intro (c : Dev nD) :
    iprop(start m sw c ∗ Pipeline.prefHeld Pipeline.Prefetch.none c (fun _ => fullShare.right) (fun k => k.elim0) ∗ Pipeline.scopedRest cfg0.spec c)
      ⊢ (dats m sw 0 c).Φ 0 := by
  rw [show (dats m sw 0 c).Φ 0 = Φ₀ m sw c from rfl, scopedRest0_eq]
  unfold Φ₀
  iintro ⟨Hs, -, ⟨%f, H0⟩, ⟨%g, H1⟩⟩
  isplitl [Hs]; · iexact Hs
  isplitl [H0]
  · iexists f; rw [pts_eq]; iexact H0
  · iexists g; rw [pts_eq]; iexact H1

/-- What a device keeps after the kernel: the barrier at zero, its block, and the result. -/
def keeps (c : Dev nD) : sProp 𝕄 :=
  iprop(unscopedSems0 c ∗ ((c : Thread nD τ).loc main_arg0 ↦{fullShare} blk m c) ∗ ((c : Thread nD τ).loc main_v1 ↦{fullShare} blk m (dest sw c)))

/-- What the body ends with is that, the kernel's semaphores at zero and the scratch buffers. -/
theorem phi1_exit (c : Dev nD) :
    (dats m sw 0 c).Φ (Fin.last cfg0.N) ⊢ iprop(keeps m sw c ∗ Pipeline.ownSems0 osem c ∗ Pipeline.scopedRest cfg0.spec c) := by
  rw [show (dats m sw 0 c).Φ (Fin.last cfg0.N) = Φ₁ m sw c from rfl, scopedRest0_eq, ownSems0_eq]
  unfold Φ₁ keeps
  rw [unscopedSems0_eq]
  simp only [pts_eq]
  iintro ⟨Hx, Hv, H0, H1, Hz0, Hz1, Hz2, Hz3, Hz4⟩
  isplitl [Hx Hv Hz0]
  · isplitl [Hz0]; · iexact Hz0
    isplitl [Hx] <;> iassumption
  isplitl [Hz1 Hz2 Hz3 Hz4]
  · isplitl [Hz1]; · iexact Hz1
    isplitl [Hz2]; · iexact Hz2
    isplitl [Hz3] <;> iassumption
  isplitl [H0] <;> iassumption

/-- The staging may wait throughout. -/
theorem waits (c : Dev nD) : (levAts L lv : sProp 𝕄) ⊢ Pipeline.cellsWaits cfgs (dats m sw) () 0 c :=
  Pipeline.cellsWaits_intro cfgs (dats m sw) () 0 c fun w s t =>
    mayWait_stage sw c _ (by fin_cases w <;> fin_cases s <;> decide) _ (by
      rcases t with ⟨_ | _, ht⟩
      · exact Or.inl rfl
      · exact Or.inr rfl)

/-- What is read of the final memory on device `c`. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg0) = blk m c ∧ s.mem ((c : Thread nD τ).loc main_v1) = blk m (dest sw c)

omit [FloatOps F] in
/-- It is read off what the device keeps. -/
theorem keeps_read (c : Dev nD) (s' : Phys nD τ sig (Elt F)) :
    iprop(keeps m sw c ∗ emp ∗ SI s') ⊢ (|={Set.univ}=> iprop(⌜Ends m sw c s'.mem⌝ ∗ SI s') : sProp 𝕄) := by
  unfold keeps
  iintro ⟨⟨Hu, Hx, Hv⟩, -, HSI⟩
  icombine HSI Hx gives %hx
  icombine HSI Hv gives %hv
  imod (Pipeline.unscopedSems0_read (X := unscopedSems0 c) (c := c) fupd_intro s') $$ [Hu HSI] with ⟨%hz, HSI⟩
  · isplitl [Hu] <;> iassumption
  imodintro
  isplitr; · ipureintro; exact ⟨hz, Buf.eq_of_forall_mem_univ hx, Buf.eq_of_forall_mem_univ hv⟩
  iexact HSI

/-! ## The run -/

set_option maxRecDepth 8000 in
/-- From any memory whose permutation holds the words asked, with every semaphore at zero: every fair execution ends, and
    at the end each device's block and permutation are as they were, each device's result is the block of the device it
    exchanged with (or its own, when the places stay), and every semaphore is at zero. -/
theorem run_main (h : WordsOK sw m) :
    θ_run defs (onTc (τ := τ) (main (F := F))) (⟨m, fun _ => 0, ρ⟩ : MemSt nD τ sig (Elt F)) (fun r =>
      (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v1) = m ((dest sw c : Thread nD τ).loc main_arg0))
      ∧ r.2.sem = fun _ => 0) :=
  Pipeline.θ_run_region_owing_glob_pf (fun p => (cfgs p).toPCfg) (fun p => (cfgs p).toPCfg_adm) (dats m sw) () cellOf_inj (0 : Fin 1)
    winFacts0.to₀ ownSemFacts (Pipeline.PreFacts.none _) EP defs₀ 𝒱₀ m ρ main
    (hmain := fun _ => rfl)
    (hbody := fun c => (body_obligation m sw h c).loose) (hne := block_pos0) (harr := arr_whole0) (hstage := stage_whole0) (hshare := share_eq m sw)
    (hdistinct := winFacts0.arr_inj)
    (O₀ := O₀ sw) (howed₀ := fun _ => rfl) (howedN := fun _ => rfl)
    (L := L) (lv := lv) (hL := L_of_ne) (hwaits := waits m sw)
    (G := G m sw) (G' := G' m sw) (u₀ := u₀)
    (hu₀ := by
      unfold u₀
      iintro Hu
      ihave H := (ownU_pair _ _) $$ Hu
      icases H with ⟨HP, HX⟩
      imod (fund_ring m sw) $$ HX with HG
      imodintro
      isplitl [HP] <;> iassumption)
    (hglob := glob m sw)
    (hA := fun _ _ => rfl) (hpf := fun _ k => k.elim0)
    (X := start m sw) (Y := keeps m sw) (Z := fun _ => iprop(emp))
    (hX := start_intro m ρ sw) (hin := phi0_intro m sw) (hout := phi1_exit m sw)
    (QY := Ends m sw)
    (hY := keeps_read m sw)
    (hQ := fun _ h hs => ⟨fun c => ⟨(h c).2.2.2.1, ((h c).1 (0 : Fin 1)).trans ((dats m sw 0 c).arrAt_in (0 : Fin 1) rfl _), (h c).2.2.2.2⟩,
      sem_eq_zero hs fun c => (h c).2.2.1⟩)

end Cert.Exchange

end
-- ==== Proof.Reference.lean ====
/-
# What the reference computes

The permutation of two places is one of two arrays. For each of them this module evaluates the reference: sorting the
places by their words gives the permutation itself, which is its own inverse, so the reference takes for each place of the
first axis the part of its argument at the permuted place. Over the extended reals its casts change nothing.
-/
module

public import proofs.«01_k».proof.Proof.Gen.ReferenceIdeal.Run
public import proofs.«01_k».proof.Proof.Peer
public import Idealize.ShloMosaic.Lib.Layout
public import Idealize.ShloMosaic.PureOps.Ideal
public import Idealize.ShloMosaic.Lib.Quiescent

@[expose] public section

noncomputable section

namespace Cert.Exchange

open Idealize.ShloMosaic Idealize.SL.Sem

/-- The permutation: each place's word, the other place when they swap and itself when they stay. -/
def perm (sw : Bool) : IVec ⟨1, ![2]⟩ 32 := fun i => BitVec.ofNat 32 (cond sw (1 - (i 0).val) (i 0).val)

/-- The permuted place. -/
def place (sw : Bool) (k : Fin 2) : Fin 2 := cond sw (1 - k) k

/-- The two indices of an array of two words. -/
theorem idx_cases (i : Shape.Idx ⟨1, ![2]⟩) : i = (fun a => ⟨0, by fin_cases a; decide⟩) ∨ i = (fun a => ⟨1, by fin_cases a; decide⟩) := by
  have h : (i 0).val < 2 := (i 0).isLt
  rcases Nat.lt_or_ge (i 0).val 1 with h0 | h0
  · left; funext a; fin_cases a; exact Fin.ext (by show (i 0).val = 0; omega)
  · right; funext a; fin_cases a; exact Fin.ext (by show (i 0).val = 1; omega)

set_option maxRecDepth 100000 in
/-- The permutation at a device's slot is the word the kernel's run asks for. -/
theorem perm_slot (sw : Bool) (c : Dev Cert.KernelIdeal.nD) : perm sw (slot c) = word sw c := by
  revert c
  cases sw <;> decide

/-- So where every device holds the permutation, the words are the ones asked for. -/
theorem wordsOK_of_perm {F : FTy → Type} (sw : Bool)
    (m : (ℓ : Loc Cert.KernelIdeal.nD Cert.KernelIdeal.τ Cert.KernelIdeal.sig) → Buf (Elt F) ℓ)
    (h : ∀ c : Dev Cert.KernelIdeal.nD, m ((c.tc : Thread Cert.KernelIdeal.nD Cert.KernelIdeal.τ).loc Cert.KernelIdeal.main_arg1) = perm sw) :
    WordsOK sw m := fun c => by
  rw [h c]
  exact perm_slot sw c

section

open Cert.ReferenceIdeal Cert.ReferenceIdeal.Gen

/-- Sorting the places by the permutation's words gives the permutation. -/
theorem argsort_perm (sw : Bool) : (Host.sort2 S2 0 comparator_i32_i32_d0 (perm sw) (iotaInDim S2 32 0)).2 = perm sw := by
  funext i
  rcases idx_cases i with rfl | rfl <;> cases sw <;> decide

/-- No word of it is negative, so the reference's correction of negative places leaves it. -/
theorem corrected_perm (sw : Bool) :
    select (cmpi .slt (perm sw) (broadcastInDim S2 ![] bcast_S_S2 (constantI S_ 32 0#32)))
      (addi (perm sw) (broadcastInDim S2 ![] bcast_S_S2 (constantI S_ 32 2#32))) (perm sw) = perm sw := by
  funext i
  rcases idx_cases i with rfl | rfl <;> cases sw <;> decide

/-- The word of the permutation that the reference's indexing reads for an index of its result. -/
theorem start_perm (sw : Bool) (k : Fin 2) (i : Shape.Idx S2) (hi : (i 0).val = k.val) :
    min (perm sw i).toInt.toNat (2 - 1) = (place sw k).val := by
  unfold perm
  rw [hi]
  clear hi
  revert k
  cases sw <;> decide

/-- Taking the places of the first axis by the permutation's words. -/
theorem gather_perm {α : Type} (sw : Bool) (x : S2x512x512.Idx → α) (j : S2x512x512.Idx) :
    Host.gather gather_S2x512x512_S2x1_S2x512x512_12_0_n_n_0_1_1512512 x (broadcastInDim S2x1 ![0] bcast_S2_S2x1_0 (perm sw)) j
      = x (Function.update j (0 : Fin 3) (place sw (j 0))) := by
  unfold Host.gather
  refine congrArg x (funext fun a => Fin.ext ?_)
  fin_cases a
  · exact start_perm sw (j 0) _ rfl
  · exact Nat.zero_add _
  · exact Nat.zero_add _

/-- The reference's result over the extended reals, as its run states it, when the places are permuted by `perm sw`. -/
theorem result_perm (sw : Bool) (x : S2x512x512.Idx → Elt Ideal .bf16) :
    (truncf .bf16 (extf .f32 (Host.gather gather_S2x512x512_S2x1_S2x512x512_12_0_n_n_0_1_1512512 x (broadcastInDim S2x1 ![0] bcast_S2_S2x1_0 (perm sw))) bitsLt_bf16_f32) bitsLt_bf16_f32
      : FVec Ideal S2x512x512 .bf16) = fun j => x (Function.update j (0 : Fin 3) (place sw (j 0))) := by
  funext j
  exact gather_perm sw x j

/-- The reference's run from a memory that holds the permutation. -/
theorem reference_run (sw : Bool) (m : (ℓ : Loc nD τ sig) → Buf (Elt Ideal) ℓ) (ρ : Dev nD → PrngReg)
    (h : m (((0 : Dev nD).tc : Thread nD τ).loc main_arg1) = perm sw) :
    θ_run (defs (F := Ideal)) (onTc (τ := τ) (main (F := Ideal))) ⟨m, fun _ => 0, ρ⟩ fun r =>
      r.2.mem (((0 : Dev nD).tc : Thread nD τ).loc main_v9)
          = (fun j : S2x512x512.Idx => (m (((0 : Dev nD).tc : Thread nD τ).loc main_arg0) : S2x512x512.Idx → Elt Ideal .bf16) (Function.update j (0 : Fin 3) (place sw (j 0))))
        ∧ r.2.mem (((0 : Dev nD).tc : Thread nD τ).loc main_arg0) = m (((0 : Dev nD).tc : Thread nD τ).loc main_arg0)
        ∧ r.2.mem (((0 : Dev nD).tc : Thread nD τ).loc main_arg1) = m (((0 : Dev nD).tc : Thread nD τ).loc main_arg1) :=
  (θ_run (defs (F := Ideal)) _ _).mono (fun r hr => by
    obtain ⟨hv, h0, h1⟩ := hr 0
    refine ⟨hv.trans ?_, h0, h1⟩
    rw [h, argsort_perm, corrected_perm]
    exact result_perm sw _) (Cert.ReferenceIdeal.Value.run (F := Ideal) m ρ)

/-- The reference's run from any memory: its arguments stay, and it has no semaphore to leave raised. -/
theorem reference_frame (m : (ℓ : Loc nD τ sig) → Buf (Elt Ideal) ℓ) (ρ : Dev nD → PrngReg) :
    θ_run (defs (F := Ideal)) (onTc (τ := τ) (main (F := Ideal))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run (defs (F := Ideal)) _ _).mono (fun r hr => ⟨fun c => (hr c).2, sem_eq_zero_of_no_sems (by decide) r.2⟩)
    (Cert.ReferenceIdeal.Value.run (F := Ideal) m ρ)

end

/-! ## Block by block -/

/-- The block device `c` holds. -/
abbrev part (c : Dev Cert.KernelIdeal.nD) : (b : Fin 3) → Fin (Layout.cutSize [2, 4, 4] ((![[0], [], []] : Fin 3 → List Nat) b)) :=
  Layout.meshBlock [2, 4, 4] ![[0], [], []] c

/-- The first coordinate of device `c`'s block, and of its destination's. -/
theorem block_place (sw : Bool) (c : Dev Cert.KernelIdeal.nD) :
    (part (dest sw c) 0).val = (place sw ⟨(part c 0).val, (part c 0).isLt⟩).val := by
  revert c
  cases sw <;> decide

/-- Device `c`'s block of the permuted array is the block of the array that its exchange partner holds (itself, when the
    places stay). -/
theorem block_perm {α : Type} (sw : Bool) (c : Dev Cert.KernelIdeal.nD) (x : Shape.Idx ⟨3, ![2, 512, 512]⟩ → α) :
    Layout.blockN ⟨3, ![1, 512, 512]⟩ ⟨3, ![2, 512, 512]⟩ (part (dest sw c)) x
      = Layout.blockN ⟨3, ![1, 512, 512]⟩ ⟨3, ![2, 512, 512]⟩ (part c)
          (fun j => x (Function.update j (0 : Fin 3) (place sw (j 0)))) := by
  funext i
  refine congrArg x (funext fun a => Fin.ext ?_)
  have hi : (i (0 : Fin 3)).val = 0 := Nat.lt_one_iff.mp (i (0 : Fin 3)).isLt
  fin_cases a
  · show (part (dest sw c) 0).val * 1 + (i (0 : Fin 3)).val
      = (place sw ⟨(part c 0).val * 1 + (i (0 : Fin 3)).val, by rw [hi, Nat.mul_one, Nat.add_zero]; exact (part c 0).isLt⟩).val
    simp only [hi, Nat.mul_one, Nat.add_zero]
    exact block_place sw c
  · rfl
  · rfl

end Cert.Exchange

end
-- ==== Proof.Claims.lean ====
/-
# From the runs to the claims

The preconditions name the permutation's two words, so each of them says which permutation every device holds. With that,
the kernel's run gives the kernel's frame at each kind of float values, and the two runs together the equation.
-/
module

public import proofs.«01_k».proof.Defs
public import proofs.«01_k».proof.Proof.Launch
public import proofs.«01_k».proof.Proof.Reference
public import proofs.«01_k».proof.Proof.Gen.Kernel

@[expose] public section

noncomputable section

namespace Cert.Exchange

open Idealize.ShloMosaic Idealize.SL.Sem

/-! ## The preconditions -/

/-- Two comparisons that both hold are two equations. -/
theorem both_eq (a b u v : BitVec 32) (h : IntOp.andi (IntOp.cmpi .eq a u) (IntOp.cmpi .eq b v) = 1#1) : a = u ∧ b = v := by
  have key : ∀ p q : Bool, IntOp.andi (BitVec.ofBool p) (BitVec.ofBool q) = 1#1 → p = true ∧ q = true := by decide
  exact ⟨eq_of_beq (key _ _ h).1, eq_of_beq (key _ _ h).2⟩

/-- An array whose two words are the permutation's is the permutation. -/
theorem eq_perm (sw : Bool) (v : IVec ⟨1, ![2]⟩ 32)
    (h0 : v (fun a => ⟨0, by fin_cases a; decide⟩) = BitVec.ofNat 32 (cond sw 1 0))
    (h1 : v (fun a => ⟨1, by fin_cases a; decide⟩) = BitVec.ofNat 32 (cond sw 0 1)) : v = perm sw := by
  funext i
  rcases idx_cases i with rfl | rfl
  · rw [h0]; rfl
  · rw [h1]; rfl

/-- Where the predicate `swaps` holds, the array is the permutation that swaps. -/
theorem perm_of_swaps [Cert.Pre_swaps_Kernel.Facts] {F : FTy → Type} [FloatOps F] (x : FVec F ⟨3, ![1, 512, 512]⟩ .bf16) (v : IVec ⟨1, ![2]⟩ 32)
    (h : Cert.Pre_swaps_Kernel.fn (F := F) x v = fun _ => 1#1) : v = perm true := by
  obtain ⟨h0, h1⟩ := both_eq _ _ _ _ (congrFun h fun a => a.elim0)
  exact eq_perm true v ((congrArg v (funext fun a => by fin_cases a; exact Fin.ext (congrArg (0 + ·) (Nat.lt_one_iff.mp (Fin.isLt _)).symm))).trans h0) ((congrArg v (funext fun a => by fin_cases a; exact Fin.ext (congrArg (1 + ·) (Nat.lt_one_iff.mp (Fin.isLt _)).symm))).trans h1)

/-- Where the predicate `stays` holds, the array is the permutation that stays. -/
theorem perm_of_stays [Cert.Pre_stays_Kernel.Facts] {F : FTy → Type} [FloatOps F] (x : FVec F ⟨3, ![1, 512, 512]⟩ .bf16) (v : IVec ⟨1, ![2]⟩ 32)
    (h : Cert.Pre_stays_Kernel.fn (F := F) x v = fun _ => 1#1) : v = perm false := by
  obtain ⟨h0, h1⟩ := both_eq _ _ _ _ (congrFun h fun a => a.elim0)
  exact eq_perm false v ((congrArg v (funext fun a => by fin_cases a; exact Fin.ext (congrArg (0 + ·) (Nat.lt_one_iff.mp (Fin.isLt _)).symm))).trans h0) ((congrArg v (funext fun a => by fin_cases a; exact Fin.ext (congrArg (1 + ·) (Nat.lt_one_iff.mp (Fin.isLt _)).symm))).trans h1)

/-! ## The frame -/

section

open Cert.KernelIdeal Cert.KernelIdeal.Gen

/-- At any float values, from a memory in which every device holds the permutation: the kernel ends, its arguments are as
    they were and every semaphore is at zero. -/
theorem kernel_frame {F : FTy → Type} [FloatOps F] (sw : Bool) (m : (ℓ : Loc nD τ sig) → Buf (Elt F) ℓ) (ρ : Dev nD → PrngReg)
    (h : ∀ c : Dev nD, m ((c.tc : Thread nD τ).loc main_arg1) = perm sw) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run (defs (F := F)) _ _).mono (fun r hr => ⟨fun c => ⟨(hr.1 c).1, (hr.1 c).2.1⟩, hr.2⟩) (run_main m ρ sw (wordsOK_of_perm sw m h))

/-! ## The equation -/

/-- Over the extended reals, from memories where every device holds its part of the reference's array and the same
    permutation: both run, and at the end every device's result is its part of the reference's. -/
theorem equation (sw : Bool) (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (h : ∀ c : Dev nD, m ((c.tc : Thread nD τ).loc main_arg1) = perm sw)
    (hm : ∀ c : Dev nD,
      m ((c.tc : Thread nD τ).loc main_arg0) = Layout.blockN ⟨3, ![1, 512, 512]⟩ ⟨3, ![2, 512, 512]⟩ (part c)
          (m' (((0 : Dev Cert.ReferenceIdeal.nD).tc : Thread Cert.ReferenceIdeal.nD Cert.ReferenceIdeal.τ).loc Cert.ReferenceIdeal.main_arg0))
      ∧ m ((c.tc : Thread nD τ).loc main_arg1)
          = m' (((0 : Dev Cert.ReferenceIdeal.nD).tc : Thread Cert.ReferenceIdeal.nD Cert.ReferenceIdeal.τ).loc Cert.ReferenceIdeal.main_arg1)) :
    ∃ (v0 : Buf (Elt Ideal) (((0 : Dev Cert.ReferenceIdeal.nD).tc : Thread Cert.ReferenceIdeal.nD Cert.ReferenceIdeal.τ).loc Cert.ReferenceIdeal.main_v9)),
      θ_run (defs (F := Ideal)) (onTc (τ := τ) (main (F := Ideal))) ⟨m, fun _ => 0, ρ⟩ (fun r => ∀ c : Dev nD,
          r.2.mem ((c.tc : Thread nD τ).loc main_v1) = Layout.blockN ⟨3, ![1, 512, 512]⟩ ⟨3, ![2, 512, 512]⟩ (part c) v0
          ∧ r.2.mem ((c.tc : Thread nD τ).loc main_arg0) = m ((c.tc : Thread nD τ).loc main_arg0)
          ∧ r.2.mem ((c.tc : Thread nD τ).loc main_arg1) = m ((c.tc : Thread nD τ).loc main_arg1))
      ∧ θ_run (Cert.ReferenceIdeal.defs (F := Ideal)) (onTc (τ := Cert.ReferenceIdeal.τ) (Cert.ReferenceIdeal.main (F := Ideal))) ⟨m', fun _ => 0, ρ'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) := by
  refine ⟨_, ?_, reference_run sw m' ρ' ((hm 0).2.symm.trans (h 0))⟩
  refine (θ_run (defs (F := Ideal)) _ _).mono (fun r hr c => ⟨?_, (hr.1 c).1, (hr.1 c).2.1⟩) (run_main m ρ sw (wordsOK_of_perm sw m h))
  exact ((hr.1 c).2.2.trans (hm (dest sw c)).1).trans (block_perm sw c _)

end

end Cert.Exchange

end
-- ==== Proof.Same.lean ====
/-
# The two texts of the kernel are one

The kernel over machine floats and the kernel over extended reals are two texts. No operation of this kernel is
replaced, so at the same values the two are the same program: the body first, then the table of bodies, then the launch.
-/
module

public import proofs.«01_k».proof.Proof.Gen.Kernel
public import proofs.«01_k».proof.Proof.Gen.KernelIdeal

@[expose] public section

noncomputable section

namespace Cert.Exchange

open Idealize.ShloMosaic Idealize.SL.Sem

/-- The two bodies are equal, whatever buffers and semaphores they are given. -/
theorem body_same (a0 h0 a1 h1 a2 h2 a3 h3 a4 h4 a5 a6 a7 a8) :
    Cert.Kernel.cc0_body (F := Bits) a0 h0 a1 h1 a2 h2 a3 h3 a4 h4 a5 a6 a7 a8
      = Cert.KernelIdeal.cc0_body (F := Bits) a0 h0 a1 h1 a2 h2 a3 h3 a4 h4 a5 a6 a7 a8 := by
  unfold Cert.Kernel.cc0_body Cert.KernelIdeal.cc0_body
  rfl

/-- So the two tables of bodies are equal -/
theorem bodies_same : Cert.Kernel.defs₀ (F := Bits) = Cert.KernelIdeal.defs₀ := by
  unfold Cert.Kernel.defs₀ Cert.KernelIdeal.defs₀
  refine congrArg Defs.onTc (funext fun l => funext fun a => ?_)
  match l, a with
  | 0, (t, s) => exact body_same ..
  | ⟨_ + 1, h⟩, _ => exact absurd h (Nat.not_lt.2 (Nat.le_add_left _ _))

/-- and the two launches too. -/
theorem launch_same : Cert.Kernel.defs (F := Bits) = Cert.KernelIdeal.defs := congrArg (Pipeline.defs _) bodies_same

end Cert.Exchange

end
-- ==== Proof.lean ====
/-
# The proof of the claims

Each claim, from the kernel's run and the reference's (`Proof/Claims.lean`). The kernel over machine floats and the kernel
over extended reals are the same program (`Proof/Same.lean`), so the one run serves both.
-/
module

public import proofs.«01_k».proof.Defs
public import proofs.«01_k».proof.Proof.Claims
public import proofs.«01_k».proof.Proof.Same
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_swaps_Kernel
public import proofs.«01_k».proof.Proof.Gen.Pre_stays_Kernel
public import proofs.«01_k».proof.Proof.Gen.Pre_swaps_ReferenceIdeal
public import proofs.«01_k».proof.Proof.Gen.Pre_stays_ReferenceIdeal

@[expose] public section

noncomputable section

namespace Cert.Proof

open Idealize.ShloMosaic Idealize.SL.Sem Cert.Exchange

/-- The kernel's frame when the places swap. -/
theorem frame_swaps [Cert.Pre_swaps_Kernel.Facts] : Cert.quiescent_Kernel := by
  intro m ρ h
  rw [launch_same]
  exact kernel_frame (F := Bits) true m ρ fun c => perm_of_swaps _ _ (h c)

/-- The kernel's frame when the places stay. -/
theorem frame_stays [Cert.Pre_stays_Kernel.Facts] : Cert.quiescent_Kernel_pre_stays_Kernel := by
  intro m ρ h
  rw [launch_same]
  exact kernel_frame (F := Bits) false m ρ fun c => perm_of_stays _ _ (h c)

/-- The same over the extended reals, when the places swap -/
theorem ideal_frame_swaps [Cert.Pre_swaps_Kernel.Facts] : Cert.quiescent_KernelIdeal :=
  fun m ρ h => kernel_frame (F := Ideal) true m ρ fun c => perm_of_swaps _ _ (h c)

/-- and when they stay. -/
theorem ideal_frame_stays [Cert.Pre_stays_Kernel.Facts] : Cert.quiescent_KernelIdeal_pre_stays_Kernel :=
  fun m ρ h => kernel_frame (F := Ideal) false m ρ fun c => perm_of_stays _ _ (h c)

/-- The kernel's result is the reference's when the places swap -/
theorem equation_swaps [Cert.Pre_swaps_Kernel.Facts] : Cert.algebraic_KernelIdeal_ReferenceIdeal :=
  fun m ρ m' ρ' h hm => equation true m ρ m' ρ' (fun c => perm_of_swaps _ _ (h c)) hm

/-- and when they stay. -/
theorem equation_stays [Cert.Pre_stays_Kernel.Facts] : Cert.algebraic_KernelIdeal_ReferenceIdeal_pre_stays_Kernel :=
  fun m ρ m' ρ' h hm => equation false m ρ m' ρ' (fun c => perm_of_stays _ _ (h c)) hm

/-- All the claims. -/
theorem claim : Cert.Claim :=
  ⟨Cert.Kernel.Gen.facts, Cert.KernelIdeal.Gen.facts, Cert.ReferenceIdeal.Gen.facts, Cert.Pre_swaps_Kernel.Gen.facts, Cert.Pre_stays_Kernel.Gen.facts,
    Cert.Pre_swaps_ReferenceIdeal.Gen.facts, Cert.Pre_stays_ReferenceIdeal.Gen.facts,
    frame_swaps, frame_stays, ideal_frame_swaps, ideal_frame_stays,
    fun m ρ _ => reference_frame m ρ, fun m ρ _ => reference_frame m ρ, fun m ρ _ => reference_frame m ρ,
    trivial, equation_swaps, equation_stays⟩

end Cert.Proof

end
